-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 8, 64]⟩ ⟨4, ![2, 1024, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 1024, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x8x64 : S_.BroadcastsInDim S2x128x8x64 (![] : Fin 0 → Fin S2x128x8x64.rank)
  reducesTo_S2x128x8x64_S_d0_1_2_3 : S2x128x8x64.ReducesTo [0, 1, 2, 3] S_

variable [Facts]

def fn {F : FTy → Type} [FloatOps F] (main_arg0 : FVec F S2x128x512 .f32) (main_arg1 : FVec F S512x512 .f32) (main_arg2 : FVec F S2x128x8x64 .f32) (main_arg3 : FVec F S2x128x8x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x8x64 .f32 := Host.absf main_arg2
  let main_cst_2 : FVec F S_ .f32 := constant S_ .f32 0x7F800000#32
  let main_v10 : FVec F S2x128x8x64 .f32 := broadcastInDim S2x128x8x64 ![] bcast_S_S2x128x8x64 main_cst_2
  let main_v11 : IVec S2x128x8x64 1 := cmpf .olt main_v9 main_v10
  let main_c_3 : IVec S_ 1 := constantI S_ 1 1#1
  let main_v12 : IVec S_ 1 := (fun x v => Host.reduce IntOp.andi x v reducesTo_S2x128x8x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x512 : Shape := ⟨2, ![512, 512]⟩
abbrev S2x1024x8x64 : Shape := ⟨4, ![2, 1024, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_

variable [Facts]

def fn {F : FTy → Type} [FloatOps F] (main_arg0 : FVec F S2x128x512 .f32) (main_arg1 : FVec F S512x512 .f32) (main_arg2 : FVec F S2x1024x8x64 .f32) (main_arg3 : FVec F S2x1024x8x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x1024x8x64 .f32 := Host.absf main_arg2
  let main_cst_2 : FVec F S_ .f32 := constant S_ .f32 0x7F800000#32
  let main_v10 : FVec F S2x1024x8x64 .f32 := broadcastInDim S2x1024x8x64 ![] bcast_S_S2x1024x8x64 main_cst_2
  let main_v11 : IVec S2x1024x8x64 1 := cmpf .olt main_v9 main_v10
  let main_c_3 : IVec S_ 1 := constantI S_ 1 1#1
  let main_v12 : IVec S_ 1 := (fun x v => Host.reduce IntOp.andi x v reducesTo_S2x1024x8x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S256x512 : Shape := ⟨2, ![256, 512]⟩
abbrev S2x528x128 : Shape := ⟨3, ![2, 528, 128]⟩
abbrev S3x2x528x128 : Shape := ⟨4, ![3, 2, 528, 128]⟩
abbrev S3x2 : Shape := ⟨2, ![3, 2]⟩
abbrev S_ : Shape := ⟨0, ![]⟩
abbrev S1x128x512 : Shape := ⟨3, ![1, 128, 512]⟩
abbrev S128x512 : Shape := ⟨2, ![128, 512]⟩
abbrev S128x64 : Shape := ⟨2, ![128, 64]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S1x64x128 : Shape := ⟨3, ![1, 64, 128]⟩
abbrev S1x1x128 : Shape := ⟨3, ![1, 1, 128]⟩
abbrev S8x128 : Shape := ⟨2, ![8, 128]⟩
abbrev S1x8x128 : Shape := ⟨3, ![1, 8, 128]⟩
abbrev S1x528x128 : Shape := ⟨3, ![1, 528, 128]⟩
abbrev S528x128 : Shape := ⟨2, ![528, 128]⟩
abbrev S1x1x528x128 : Shape := ⟨4, ![1, 1, 528, 128]⟩
abbrev S1x1 : Shape := ⟨2, ![1, 1]⟩
abbrev S1x512x128 : Shape := ⟨3, ![1, 512, 128]⟩
abbrev S512x128 : Shape := ⟨2, ![512, 128]⟩
abbrev S8x1x128 : Shape := ⟨3, ![8, 1, 128]⟩
abbrev S8x64x128 : Shape := ⟨3, ![8, 64, 128]⟩

abbrev nBuf : Space → Nat
  | .hbm => 10
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x8x64, .f32⟩
  | .hbm, ⟨3, _⟩ => ⟨S2x128x8x64, .f32⟩
  | .hbm, ⟨4, _⟩ => ⟨S512x512, .f32⟩
  | .hbm, ⟨5, _⟩ => ⟨S256x512, .f32⟩
  | .hbm, ⟨6, _⟩ => ⟨S2x128x512, .f32⟩
  | .hbm, ⟨7, _⟩ => ⟨S2x128x512, .f32⟩
  | .hbm, ⟨8, _⟩ => ⟨S256x512, .f32⟩
  | .hbm, ⟨9, _⟩ => ⟨S2x128x512, .f32⟩
  | .local _ .vmem, ⟨0, _⟩ => ⟨S256x512, .f32⟩
  | .local _ .vmem, ⟨1, _⟩ => ⟨S512x512, .f32⟩
  | .local _ .vmem, ⟨2, _⟩ => ⟨S512x512, .f32⟩
  | .local _ .vmem, ⟨3, _⟩ => ⟨S2x128x512, .f32⟩
  | .local _ .vmem, ⟨4, _⟩ => ⟨S2x128x512, .f32⟩
  | .local _ .vmem, ⟨5, _⟩ => ⟨S256x512, .f32⟩
  | .local _ .vmem, ⟨6, _⟩ => ⟨S2x528x128, .f32⟩
  | .local _ .vmem, ⟨7, _⟩ => ⟨S3x2x528x128, .bf16⟩
  | .local _ .vmem, ⟨8, _⟩ => ⟨S3x2x528x128, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.xori v2 c1_i32_4
  let c1_i32_6 : BitVec 32 := 1#32
  let v12 : BitVec 32 := Scalar.muli v11 c1_i32_6
  let v13 : BitVec 32 := Scalar.addi c0_i32 v12
  v13.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_8 : BitVec 32 := 1#32
  let v15 : BitVec 32 := Scalar.muli v14 c1_i32_8
  let v16 : BitVec 32 := Scalar.addi c0_i32_9 v15
  v16.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_11 : BitVec 32 := 1#32
  let v18 : BitVec 32 := Scalar.muli v17 c1_i32_11
  let v19 : BitVec 32 := Scalar.addi c0_i32_12 v18
  v19.toNat
def k0_dev4 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_87 : BitVec 32 := 1#32
  let v146 : BitVec 32 := Scalar.xori v2 c1_i32_87
  let c1_i32_96 : BitVec 32 := 1#32
  let v147 : BitVec 32 := Scalar.muli v146 c1_i32_96
  let v148 : BitVec 32 := Scalar.addi c0_i32_97 v147
  v148.toNat
def k0_dev5 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_190 : BitVec 32 := 1#32
  let v283 : BitVec 32 := Scalar.xori v2 c1_i32_190
  let c1_i32_199 : BitVec 32 := 1#32
  let v284 : BitVec 32 := Scalar.muli v283 c1_i32_199
  let v285 : BitVec 32 := Scalar.addi c0_i32_200 v284
  v285.toNat
def k0_dev6 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_236 : BitVec 32 := 3#32
  let v317 : BitVec 32 := Scalar.xori v2 c3_i32_236
  let c1_i32_245 : BitVec 32 := 1#32
  let v318 : BitVec 32 := Scalar.muli v317 c1_i32_245
  let v319 : BitVec 32 := Scalar.addi c0_i32_246 v318
  v319.toNat
def k0_dev7 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_282 : BitVec 32 := 3#32
  let v351 : BitVec 32 := Scalar.xori v2 c3_i32_282
  let c1_i32_291 : BitVec 32 := 1#32
  let v352 : BitVec 32 := Scalar.muli v351 c1_i32_291
  let v353 : BitVec 32 := Scalar.addi c0_i32_292 v352
  v353.toNat
def k0_dev8 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_327 : BitVec 32 := 4#32
  let v385 : BitVec 32 := Scalar.xori v2 c4_i32_327
  let c1_i32_335 : BitVec 32 := 1#32
  let v386 : BitVec 32 := Scalar.muli v385 c1_i32_335
  let v387 : BitVec 32 := Scalar.addi c0_i32_336 v386
  v387.toNat
def k0_dev9 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_372 : BitVec 32 := 4#32
  let v419 : BitVec 32 := Scalar.xori v2 c4_i32_372
  let c1_i32_381 : BitVec 32 := 1#32
  let v420 : BitVec 32 := Scalar.muli v419 c1_i32_381
  let v421 : BitVec 32 := Scalar.addi c0_i32_382 v420
  v421.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x1024x8x64 : Shape := ⟨4, ![2, 1024, 8, 64]⟩
abbrev S2x128x8x64 : Shape := ⟨4, ![2, 128, 8, 64]⟩
abbrev S_ : Shape := ⟨0, ![]⟩
abbrev S2x8x128x1 : Shape := ⟨4, ![2, 8, 128, 1]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x1024x8x64, .f32⟩
  | .hbm, ⟨3, _⟩ => ⟨S2x1024x8x64, .f32⟩
  | .hbm, ⟨4, _⟩ => ⟨S512x512, .f32⟩
  | .hbm, ⟨5, _⟩ => ⟨S2x128x512, .f32⟩
  | .hbm, ⟨6, _⟩ => ⟨S2x128x8x64, .f32⟩
  | .hbm, ⟨7, _⟩ => ⟨S_, .f32⟩
  | .hbm, ⟨8, _⟩ => ⟨S2x128x8x64, .f32⟩
  | .hbm, ⟨9, _⟩ => ⟨S_, .f32⟩
  | .hbm, ⟨10, _⟩ => ⟨S2x8x128x1, .f32⟩
  | .hbm, ⟨11, _⟩ => ⟨S_, .f32⟩
  | .hbm, ⟨12, _⟩ => ⟨S2x8x128x1, .f32⟩
  | .hbm, ⟨13, _⟩ => ⟨S2x8x128x1024, .f32⟩
  | .hbm, ⟨14, _⟩ => ⟨S_, .f32⟩
  | .hbm, ⟨15, _⟩ => ⟨S2x8x128x1024, .f32⟩
  | .hbm, ⟨16, _⟩ => ⟨S2x8x128x1024, .f32⟩
  | .hbm, ⟨17, _⟩ => ⟨S_, .f32⟩
  | .hbm, ⟨18, _⟩ => ⟨S2x8x128, .f32⟩
  | .hbm, ⟨19, _⟩ => ⟨S2x8x128x1, .f32⟩
  | .hbm, ⟨20, _⟩ => ⟨S2x8x128x1, .f32⟩
  | .hbm, ⟨21, _⟩ => ⟨S2x8x128x1, .f32⟩
  | .hbm, ⟨22, _⟩ => ⟨S2x8x128x1, .f32⟩
  | .hbm, ⟨23, _⟩ => ⟨S2x8x128x1024, .f32⟩
  | .hbm, ⟨24, _⟩ => ⟨S2x8x128x1024, .f32⟩
  | .hbm, ⟨25, _⟩ => ⟨S2x8x128x1024, .f32⟩
  | .hbm, ⟨26, _⟩ => ⟨S2x8x128x1, .f32⟩
  | .hbm, ⟨27, _⟩ => ⟨S_, .f32⟩
  | .hbm, ⟨28, _⟩ => ⟨S2x8x128, .f32⟩
  | .hbm, ⟨29, _⟩ => ⟨S2x8x128x1, .f32⟩
  | .hbm, ⟨30, _⟩ => ⟨S2x8x128x1, .f32⟩
  | .hbm, ⟨31, _⟩ => ⟨S2x128x8x1, .f32⟩
  | .hbm, ⟨32, _⟩ => ⟨S2x128x8x64, .f32⟩
  | .hbm, ⟨33, _⟩ => ⟨S2x128x8x64, .f32⟩
  | .hbm, ⟨34, _⟩ => ⟨S2x8x64x128, .f32⟩
  | .hbm, ⟨35, _⟩ => ⟨S2x128x8x64, .f32⟩
  | .hbm, ⟨36, _⟩ => ⟨S2x128x8x64, .f32⟩
  | .hbm, ⟨37, _⟩ => ⟨S2x128x8x1, .f32⟩
  | .hbm, ⟨38, _⟩ => ⟨S2x128x8x64, .f32⟩
  | .hbm, ⟨39, _⟩ => ⟨S2x128x8x64, .f32⟩
  | .hbm, ⟨40, _⟩ => ⟨S2x128x512, .f32⟩
  | .hbm, ⟨41, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.KernelIdeal.Protocol.lean ====
/-
  The protocol of the all-reduce. Each device adds up its own numerators and denominators with those of its partners in
  three steps: in step `s` it exchanges one slot per batch with the device whose number differs from its own by the
  bits of `mask s`. Before the first transfer every device tells its three partners that its receive slots are free.

  Cells of one device, each used for one round:
  * the barrier cell, paid one unit by each partner; with its unit, the partner of step `s` hands over its two receive
    slots of step `s`;
  * a send cell per step and batch, paid by the device's own transfer, which hands back the slot it was read from;
  * a receive cell per step and batch, paid by the partner's transfer, which hands over the slot as filled.
-/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Regions
public import Idealize.ShloMosaic.Lib.Pipeline.RegionTalk
public import Idealize.ShloMosaic.Lib.Pipeline.Value
public import Idealize.ShloMosaic.Lib.Rounds
public import Idealize.ShloMosaic.Lib.StableHlo
public import Idealize.ShloMosaic.Lib.Tactic

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type}

/-! ## Partners -/

/-- The bits in which the numbers of partners of step `s` differ. -/
def mask : Fin 3 → ℕ := ![1, 3, 4]
/-- The partner of device `c` in step `s`. -/
def peer (s : Fin 3) (c : Dev nD) : Dev nD := ⟨(c.val ^^^ mask s) % 8, Nat.mod_lt _ (by decide)⟩
theorem peer_peer (s : Fin 3) (c : Dev nD) : peer s (peer s c) = c := by revert s c; decide
/-- Partnership of step `s` as a permutation of the devices. -/
def swap (s : Fin 3) : Dev nD ≃ Dev nD := ⟨peer s, peer s, peer_peer s, peer_peer s⟩

theorem dev1 (c : Dev nD) : (⟨k0_dev1 c, k0_dev1_lt c⟩ : Dev nD) = peer 0 c := by revert c; decide
theorem dev2 (c : Dev nD) : (⟨k0_dev2 c, k0_dev2_lt c⟩ : Dev nD) = peer 1 c := by revert c; decide
theorem dev3 (c : Dev nD) : (⟨k0_dev3 c, k0_dev3_lt c⟩ : Dev nD) = peer 2 c := by revert c; decide
theorem dev4 (c : Dev nD) : (⟨k0_dev4 c, k0_dev4_lt c⟩ : Dev nD) = peer 0 c := by revert c; decide
theorem dev5 (c : Dev nD) : (⟨k0_dev5 c, k0_dev5_lt c⟩ : Dev nD) = peer 0 c := by revert c; decide
theorem dev6 (c : Dev nD) : (⟨k0_dev6 c, k0_dev6_lt c⟩ : Dev nD) = peer 1 c := by revert c; decide
theorem dev7 (c : Dev nD) : (⟨k0_dev7 c, k0_dev7_lt c⟩ : Dev nD) = peer 1 c := by revert c; decide
theorem dev8 (c : Dev nD) : (⟨k0_dev8 c, k0_dev8_lt c⟩ : Dev nD) = peer 2 c := by revert c; decide
theorem dev9 (c : Dev nD) : (⟨k0_dev9 c, k0_dev9_lt c⟩ : Dev nD) = peer 2 c := by revert c; decide

/-! ## Slots and semaphores -/

abbrev accM : Memref sig .tc .vmem S2x528x128 .f32 := Memref.whole cc0_scratch0
abbrev sM : Memref sig .tc .vmem S3x2x528x128 .bf16 := Memref.whole cc0_scratch1
abbrev rM : Memref sig .tc .vmem S3x2x528x128 .bf16 := Memref.whole cc0_scratch2

theorem slot_inb (s : Fin 3) (b : Fin 2) : ∀ a, (![s.val, b.val, 0, 0] : Fin 4 → ℕ) a + S1x1x528x128.size a ≤ S3x2x528x128.size a := by
  revert s b; decide
theorem sem_inb (s : Fin 3) (b : Fin 2) : ∀ a, (![s.val, b.val] : Fin 2 → ℕ) a + S1x1.size a ≤ S3x2.size a := by
  revert s b; decide
/-- The slot of step `s` and batch `b`. -/
abbrev slotR (s : Fin 3) (b : Fin 2) : Rect S3x2x528x128 := Rect.unit (s := S3x2x528x128) ![s.val, b.val, 0, 0] S1x1x528x128.size (slot_inb s b)
/-- The send slot and the receive slot, as the transfers name them. -/
abbrev sSlot (s : Fin 3) (b : Fin 2) : Memref sig .tc .vmem S528x128 .bf16 :=
  (sM.slice (slotR s b) (fun _ => rfl)).squeeze S528x128 squeezes_S1x1x528x128_S528x128
abbrev rSlot (s : Fin 3) (b : Fin 2) : Memref sig .tc .vmem S528x128 .bf16 :=
  (rM.slice (slotR s b) (fun _ => rfl)).squeeze S528x128 squeezes_S1x1x528x128_S528x128
abbrev sendSem (s : Fin 3) (b : Fin 2) : DmaSem sig :=
  ((cc0_scratch3.slice (Rect.unit (s := S3x2) ![s.val, b.val] S1x1.size (sem_inb s b))).squeeze S_ squeezes_S1x1_S_).sem
abbrev recvSem (s : Fin 3) (b : Fin 2) : DmaSem sig :=
  ((cc0_scratch4.slice (Rect.unit (s := S3x2) ![s.val, b.val] S1x1.size (sem_inb s b))).squeeze S_ squeezes_S1x1_S_).sem

theorem sendSem_val (s : Fin 3) (b : Fin 2) : (sendSem s b).val = 6 + (2 * s.val + b.val) := by revert s b; decide
theorem recvSem_val (s : Fin 3) (b : Fin 2) : (recvSem s b).val = 12 + (2 * s.val + b.val) := by revert s b; decide

abbrev barCell (c : Dev nD) : GSem nD τ sig := ((c : Thread nD τ), .reg barrier0)
abbrev sendCell (c : Dev nD) (s : Fin 3) (b : Fin 2) : GSem nD τ sig := ((c : Thread nD τ), .dma (sendSem s b))
abbrev recvCell (c : Dev nD) (s : Fin 3) (b : Fin 2) : GSem nD τ sig := ((c : Thread nD τ), .dma (recvSem s b))

/-- The units one slot's transfer pays. -/
abbrev N : ℕ := (rSlot 0 0).view.dmaCredit
theorem N_pos : 0 < N := View.dmaCredit_pos _ (by decide)
theorem amount_slot (s : Fin 3) (b : Fin 2) (i : DmaSem sig) : (rSlot s b).view.amount (.dma i) = N := rfl

/-! ## What the slots hold -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- Device `c`'s send slot, receive slot, at contents `f` of the buffer. -/
abbrev sPts (c : Dev nD) (s : Fin 3) (b : Fin 2) (f : Buf (Elt F) ((c : Thread nD τ).loc cc0_scratch1)) : sProp 𝕄 :=
  (sSlot s b).view.loc (c : Thread nD τ) ↦[(sSlot s b).view.set]{fullShare} f
abbrev rPts (c : Dev nD) (s : Fin 3) (b : Fin 2) (f : Buf (Elt F) ((c : Thread nD τ).loc cc0_scratch2)) : sProp 𝕄 :=
  (rSlot s b).view.loc (c : Thread nD τ) ↦[(rSlot s b).view.set]{fullShare} f

/-- What each device sends, by step, batch and device. -/
abbrev Sent (F : FTy → Type) : Type := Fin 3 → Fin 2 → Dev nD → Vec F S528x128 .bf16

variable (B : Sent F)

/-! ## The schedule -/

/-- Handed to device `c` by its partner of step `k`: the partner's receive slots of that step, whose cells are open. -/
def barPay (c : Dev nD) (k : Fin 3) : sProp 𝕄 :=
  iprop((∃ f, rPts (peer k c) k 0 f) ∗ (∃ f, rPts (peer k c) k 1 f) ∗ reached ER (recvCell (peer k c) k 0) 0 ∗ reached ER (recvCell (peer k c) k 1) 0)
/-- Handed to device `c` with the partner's transfer: the receive slot, reading what the partner sent. -/
def recvPay (c : Dev nD) (s : Fin 3) (b : Fin 2) : sProp 𝕄 :=
  iprop(∃ f, ⌜(rSlot s b).view.read (Elt F) f = B s b (peer s c)⌝ ∗ rPts c s b f)
/-- Handed back with the device's own transfer: the send slot. -/
def sendPay (c : Dev nD) (s : Fin 3) (b : Fin 2) : sProp 𝕄 := iprop(∃ f, sPts c s b f)

/-- The step and the batch of a send or receive semaphore. -/
def stepOf (i : DmaSem sig) : Fin 3 := ⟨i.val / 2 % 3, Nat.mod_lt _ (by decide)⟩
def batchOf (i : DmaSem sig) : Fin 2 := ⟨i.val % 2, Nat.mod_lt _ (by decide)⟩
theorem stepOf_send (s : Fin 3) (b : Fin 2) : stepOf (sendSem s b) = s := by revert s b; decide
theorem batchOf_send (s : Fin 3) (b : Fin 2) : batchOf (sendSem s b) = b := by revert s b; decide
theorem stepOf_recv (s : Fin 3) (b : Fin 2) : stepOf (recvSem s b) = s := by revert s b; decide
theorem batchOf_recv (s : Fin 3) (b : Fin 2) : batchOf (recvSem s b) = b := by revert s b; decide

/-- The duties on a semaphore: three on the barrier's, one on a send or receive cell's. -/
def dutiesOf : SemLoc sig → Finset (Fin 3)
  | .reg _ => Finset.univ
  | .dma i => if 6 ≤ i.val then {0} else ∅
def amountOf : SemLoc sig → ℕ
  | .reg _ => 1
  | .dma _ => N
def payOf (c : Dev nD) (d : Fin 3) : SemLoc sig → sProp 𝕄
  | .reg _ => barPay c d
  | .dma i => if 12 ≤ i.val then recvPay B c (stepOf i) (batchOf i) else sendPay c (stepOf i) (batchOf i)

def sched : Rounds.Schedule (GSem nD τ sig) (Fin 3) 𝕄 where
  duties g r := if r = 0 ∧ g.1.2 = .tc then dutiesOf g.2 else ∅
  unitless _ := False
  amount g _ _ := amountOf g.2
  payload g _ d := payOf B g.1.1 d g.2
  amount_pos g _ _ _ := by
    rcases g with ⟨_, _ | _⟩
    · exact Nat.one_pos
    · exact N_pos

instance sched_storable (g : GSem nD τ sig) (r : ℕ) (d : Fin 3) : BI.Storable (upEmb : UEmb _ 𝕄) ((sched B).payload g r d) := by
  rcases g with ⟨t, _ | i⟩
  · show BI.Storable upEmb (barPay t.1 d)
    unfold barPay; infer_instance
  · show BI.Storable upEmb (if 12 ≤ i.val then recvPay B t.1 (stepOf i) (batchOf i) else sendPay t.1 (stepOf i) (batchOf i))
    unfold recvPay sendPay
    split <;> infer_instance

section Tables
variable (c : Dev nD) (s : Fin 3) (b : Fin 2) (d : Fin 3)

theorem duties_zero (sm : SemLoc sig) : (sched B).duties ((c : Thread nD τ), sm) 0 = dutiesOf sm := by
  dsimp only [sched]; exact if_pos ⟨rfl, rfl⟩
theorem duties_bar : (sched B).duties (barCell c) 0 = Finset.univ := duties_zero B c _
theorem duties_send : (sched B).duties (sendCell c s b) 0 = {0} := by
  rw [duties_zero]; show (if 6 ≤ (sendSem s b).val then _ else _) = _
  rw [if_pos (by rw [sendSem_val]; omega)]
theorem duties_recv : (sched B).duties (recvCell c s b) 0 = {0} := by
  rw [duties_zero]; show (if 6 ≤ (recvSem s b).val then _ else _) = _
  rw [if_pos (by rw [recvSem_val]; omega)]
theorem duties_later (g : GSem nD τ sig) : ∀ r, 1 ≤ r → (sched B).duties g r = ∅ :=
  fun r hr => if_neg fun h => absurd h.1 (Nat.one_le_iff_ne_zero.mp hr)

theorem expect_bar : (sched B).expect (barCell c) 0 = 3 := by
  unfold Schedule.expect Schedule.amountOf; rw [duties_bar]; rfl
theorem expect_send : (sched B).expect (sendCell c s b) 0 = N := by
  unfold Schedule.expect Schedule.amountOf; rw [duties_send, Finset.sum_singleton]; rfl
theorem expect_recv : (sched B).expect (recvCell c s b) 0 = N := by
  unfold Schedule.expect Schedule.amountOf; rw [duties_recv, Finset.sum_singleton]; rfl

theorem payload_send : (sched B).payload (sendCell c s b) 0 d = sendPay c s b := by
  show (if 12 ≤ (sendSem s b).val then _ else _) = _
  rw [if_neg (by rw [sendSem_val]; omega), stepOf_send, batchOf_send]
theorem payload_recv : (sched B).payload (recvCell c s b) 0 d = recvPay B c s b := by
  show (if 12 ≤ (recvSem s b).val then _ else _) = _
  rw [if_pos (by rw [recvSem_val]; omega), stepOf_recv, batchOf_recv]

theorem rest_bar : bigSep ((sched B).duties (barCell c) 0 \ ∅) (fun k => (sched B).payload (barCell c) 0 k)
    = iprop(barPay c 0 ∗ barPay c 1 ∗ barPay c 2) := by
  rw [Finset.sdiff_empty, duties_bar]
  exact bigSep_univ_eq_bigSepL [(0 : Fin 3), 1, 2] (by decide) (by decide) _
theorem rest_send : bigSep ((sched B).duties (sendCell c s b) 0 \ ∅) (fun k => (sched B).payload (sendCell c s b) 0 k) = sendPay c s b := by
  rw [Finset.sdiff_empty, duties_send, bigSep_singleton, payload_send]
theorem rest_recv : bigSep ((sched B).duties (recvCell c s b) 0 \ ∅) (fun k => (sched B).payload (recvCell c s b) 0 k) = recvPay B c s b := by
  rw [Finset.sdiff_empty, duties_recv, bigSep_singleton, payload_recv]

end Tables

/-! ## Debts and levels -/

/-- The tallies of a list of cells and units still to be paid, the next to be paid first. -/
def owing : List (GSem nD τ sig × ℕ) → CellTallies nD τ sig Unit
  | [] => 0
  | p :: l => owing l + tallyAt p.1 () p.2

/-- What device `c` owes for its transfers, and at launch. -/
def debts (c : Dev nD) : List (GSem nD τ sig × ℕ) :=
  [(barCell (peer 0 c), 1), (barCell (peer 1 c), 1), (barCell (peer 2 c), 1),
   (recvCell (peer 0 c) 0 0, N), (recvCell (peer 0 c) 0 1, N), (recvCell (peer 1 c) 1 0, N), (recvCell (peer 1 c) 1 1, N),
   (recvCell (peer 2 c) 2 0, N), (recvCell (peer 2 c) 2 1, N)]
/-- What is left of the debts after `n` payments. -/
abbrev owed (c : Dev nD) (n : ℕ) : CellTallies nD τ sig Unit := owing ((debts c).drop n)

def L (g : GSem nD τ sig) : Finset Unit := if g.1.2 = .tc then {()} else ∅
/-- Barrier before receive cells, and those by step; the rest below. -/
def lv (g : GSem nD τ sig) (_ : Unit) : ℕ :=
  match g.2 with
  | .reg _ => 1
  | .dma i => if 12 ≤ i.val then 2 + (stepOf i).val else 0
theorem L_tc (c : Dev nD) (sm : SemLoc sig) : L ((c : Thread nD τ), sm) = {()} := if_pos rfl
theorem lv_bar (c : Dev nD) : lv (barCell c) () = 1 := rfl
theorem lv_recv (c : Dev nD) (s : Fin 3) (b : Fin 2) : lv (recvCell c s b) () = 2 + s.val := by
  show (if 12 ≤ (recvSem s b).val then _ else _) = _
  rw [if_pos (by rw [recvSem_val]; omega), stepOf_recv]

theorem owing_pos {l : List (GSem nD τ sig × ℕ)} {g : GSem nD τ sig} {u : Unit} (h : 0 < owing l g u) : ∃ p ∈ l, p.1 = g := by
  induction l with
  | nil => exact absurd h (Nat.lt_irrefl 0)
  | cons p l ih =>
    have h' : 0 < owing l g u + tallyAt p.1 () p.2 g u := h
    rcases Nat.add_pos_iff_pos_or_pos.mp h' with h1 | h1
    · obtain ⟨q, hq, he⟩ := ih h1; exact ⟨q, List.mem_cons_of_mem _ hq, he⟩
    · rw [tallyAt_apply] at h1
      by_cases he : g = p.1 ∧ u = ()
      · exact ⟨p, List.mem_cons_self .., he.1.symm⟩
      · rw [if_neg he] at h1; exact absurd h1 (Nat.lt_irrefl 0)

/-- A wait below everything still owed is allowed. -/
theorem mayWait_owing (c : Dev nD) (sm : SemLoc sig) (l : List (GSem nD τ sig × ℕ))
    (h : ∀ p ∈ l, p.1.1.2 = .tc ∧ lv ((c : Thread nD τ), sm) () < lv p.1 ()) :
    (levAts L lv : sProp 𝕄) ⊢ MayWait (c : Thread nD τ) sm () (owing l) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := owing_pos hg
      rw [L, if_pos (h p hp).1]; exact Finset.mem_singleton_self _)
    (fun p hp => by rw [Finset.mem_singleton.mp hp])
    (fun g u hg => by
      obtain ⟨p, hp, rfl⟩ := owing_pos hg
      exact (h p hp).2)

end Cert.KernelIdeal.Talk

end
-- ==== Proof.KernelIdeal.Contents.lean ====
/-
  What the kernel computes, over any float type. One device's share of a batch is an array of 528 rows and 128 columns
  (a column per query row): head `h` has its unnormalised outputs in rows `64 h … 64 h + 63` and its sum of exponentials in
  row `512 + h`; the last eight rows are zero. A step of the exchange adds the partner's share, rounded to the width in
  which it travels. At the end the sums of exponentials divide and the output projection is applied.
-/
module

public import proofs.«01_k».proof.Proof.KernelIdeal.Protocol
public import Idealize.ShloMosaic.Lib.ValueLayout

@[expose] public section

set_option maxRecDepth 16384

noncomputable section

namespace Cert.KernelIdeal.Talk

open Idealize.ShloMosaic Idealize.SL.Sem Idealize.ShloMosaic.ValueIdx
open Cert.KernelIdeal.Gen

variable {F : FTy → Type} [FloatOps F]

/-- The operands of the kernel on one device. -/
structure Ins (F : FTy → Type) where
  x : Vec F S256x512 .f32
  wq : Vec F S512x512 .f32
  wo : Vec F S512x512 .f32
  k : Vec F S2x128x512 .f32
  v : Vec F S2x128x512 .f32

theorem batch_inb (b : Fin 2) : ∀ a, (![b.val, 0, 0] : Fin 3 → ℕ) a + S1x128x512.size a ≤ S2x128x512.size a := by
  revert b; decide
/-- One batch of the keys or values, its rows by position and its columns by head and coordinate. -/
def batch (b : Fin 2) (k : Vec F S2x128x512 .f32) : FVec F S128x512 .f32 :=
  shapeCast S128x512 (fun y => k ((Rect.unit (s := S2x128x512) ![b.val, 0, 0] S1x128x512.size (batch_inb b)).toLoadRect.idx y))
    shapeCasts_S1x128x512_S128x512

theorem slices_head (h : Fin 8) : S128x512.Slices ![0, 64 * h.val] S128x64 := by revert h; decide
theorem slices_query (b : Fin 2) (h : Fin 8) : S256x512.Slices ![128 * b.val, 64 * h.val] S128x64 := by revert b h; decide

/-- The exponentials of the scores of head `h`: a row per key, a column per query. -/
def probs (b : Fin 2) (h : Fin 8) (q : FVec F S256x512 .f32) (k : FVec F S128x512 .f32) : FVec F S128x128 .f32 :=
  exp (matmul dot_S128x64_S128x64_S128x128_1_1_0_0_n_n none (extractStridedSlice S128x64 ![0, 64 * h.val] k (slices_head h))
    (extractStridedSlice S128x64 ![128 * b.val, 64 * h.val] q (slices_query b h)) (constant S128x128 .f32 0x00000000#32))
/-- The unnormalised outputs of head `h`. -/
def num (b : Fin 2) (h : Fin 8) (q : FVec F S256x512 .f32) (k v : FVec F S128x512 .f32) : FVec F S64x128 .f32 :=
  matmul dot_S128x64_S128x128_S64x128_0_0_1_1_n_n none (extractStridedSlice S128x64 ![0, 64 * h.val] v (slices_head h))
    (probs b h q k) (constant S64x128 .f32 0x00000000#32)
/-- The sums of exponentials of head `h`. -/
def den (b : Fin 2) (h : Fin 8) (q : FVec F S256x512 .f32) (k : FVec F S128x512 .f32) : FVec F S1x128 .f32 :=
  shapeCast S1x128 (multiReduction .add [0] S128 (probs b h q k) 0x00000000#32 reduces_S128x128_S128 (.inl rfl) rfl) shapeCasts_S128_S1x128

/-- A device's own share of batch `b`. -/
def share (b : Fin 2) (q : FVec F S256x512 .f32) (k v : FVec F S128x512 .f32) : FVec F S528x128 .f32 := fun y =>
  if h0 : (y 0).val < 512 then num b ⟨(y 0).val / 64, by omega⟩ q k v (ix2 (⟨(y 0).val % 64, by omega⟩ : Fin 64) (y 1))
  else if h1 : (y 0).val < 520 then den b ⟨(y 0).val - 512, by omega⟩ q k (ix2 (0 : Fin 1) (y 1))
  else Scalar.ofBits .f32 0x00000000#32

/-- A share as it travels, and a share to which a travelled one has been added. -/
def low (a : FVec F S528x128 .f32) : FVec F S528x128 .bf16 := truncf .bf16 a bitsLt_bf16_f32
def step (a : FVec F S528x128 .f32) (v : FVec F S528x128 .bf16) : FVec F S528x128 .f32 := addf a (extf .f32 v bitsLt_bf16_f32)

/-- The step after `n` steps. -/
def stepAt (n : ℕ) : Fin 3 := ⟨n % 3, Nat.mod_lt _ (by decide)⟩

variable (I : Dev nD → Ins F)

/-- What device `c` holds of batch `b` after `n` steps of the exchange. -/
def acc : ℕ → Fin 2 → Dev nD → FVec F S528x128 .f32
  | 0, b, c => share b (k0_pay1 (I c).x (I c).wq) (batch b (I c).k) (batch b (I c).v)
  | n + 1, b, c => step (acc n b c) (low (acc n b (peer (stepAt n) c)))

/-- What device `c` sends of batch `b` in step `s`. -/
def sent (s : Fin 3) (b : Fin 2) (c : Dev nD) : FVec F S528x128 .bf16 := low (acc I s.val b c)

theorem acc_succ (s : Fin 3) (b : Fin 2) (c : Dev nD) : acc I (s.val + 1) b c = step (acc I s.val b c) (sent I s b (peer s c)) := by
  show step _ (low (acc I s.val b (peer (stepAt s.val) c))) = _
  rw [show stepAt s.val = s from Fin.ext (Nat.mod_eq_of_lt s.isLt)]; rfl

/-- The rows of the outputs and of the sums of exponentials. -/
def upper (a : FVec F S528x128 .f32) : FVec F S512x128 .f32 := fun y => a (ix2 (⟨(y 0).val, Nat.lt_of_lt_of_le (y 0).isLt (by decide)⟩ : Fin 528) (y 1))
def lower (a : FVec F S528x128 .f32) : FVec F S8x128 .f32 := fun y =>
  a (ix2 (⟨512 + (y 0).val, Nat.lt_of_lt_of_le (Nat.add_lt_add_left (y 0).isLt 512) (by decide)⟩ : Fin 528) (y 1))

/-- One batch of the result from the whole share. -/
def project (a : FVec F S528x128 .f32) (wo : Vec F S512x512 .f32) : FVec F S128x512 .f32 :=
  matmul dot_S512x128_S512x512_S128x512_0_0_1_1_n_n none
    (mulf (upper a) (shapeCast S512x128 (broadcastTo S8x64x128 (shapeCast S8x1x128 (shapeCast S8x1x128
      (divf (broadcast S8x128 (Scalar.ofBits .f32 0x3F800000#32)) (lower a)) shapeCasts_S8x128_S8x1x128) shapeCasts_S8x1x128_S8x1x128)
      broadcasts_S8x1x128_S8x64x128) shapeCasts_S8x64x128_S512x128))
    (shapeCast S512x512 wo shapeCasts_S512x512_S512x512) (constant S128x512 .f32 0x00000000#32)

/-- The kernel's result on device `c`: 128 rows per batch. -/
def result (c : Dev nD) : FVec F S256x512 .f32 := fun y =>
  project (acc I 3 ⟨(y 0).val / 128, by have : (y 0).val < 256 := (y 0).isLt; omega⟩ c) (I c).wo
    (ix2 (⟨(y 0).val % 128, Nat.mod_lt _ (by decide)⟩ : Fin 128) (y 1))

/-! ## The accumulator, filled row by row -/

/-- The buffer reads `G` on the rows of which `P` holds. -/
def Reads (G : Fin 2 → FVec F S528x128 .f32) (P : Fin 2 → Fin 528 → Prop) (f : accM.view.ty.Contents (Elt F)) : Prop :=
  ∀ b r l, P b r → accM.view.read (Elt F) f (ix3 b r l) = G b (ix2 r l)

/-- Rows `o … o + n - 1` of batch `b`. -/
abbrev rowsR (b : Fin 2) (o n : ℕ) (h : o + n ≤ 528) : Rect S2x528x128 :=
  Rect.unit (s := S2x528x128) ![b.val, o, 0] ![1, n, 128] (fun a => by
    have := b.isLt
    match a with
    | ⟨0, _⟩ => exact Nat.succ_le_of_lt b.isLt
    | ⟨1, _⟩ => exact h
    | ⟨2, _⟩ => exact Nat.le_refl 128)

theorem Reads.put {G : Fin 2 → FVec F S528x128 .f32} {P P' : Fin 2 → Fin 528 → Prop} {f : accM.view.ty.Contents (Elt F)}
    (hf : Reads G P f) (b : Fin 2) (o n : ℕ) (h : o + n ≤ 528) (w : (rowsR b o n h).shape.Idx → Elt F .f32)
    (hw : ∀ (i : Fin n) (l : Fin 128), w (ix3 (0 : Fin 1) i l) = G b (ix2 (⟨o + i.val, by omega⟩ : Fin 528) l))
    (hP : ∀ b' r, P' b' r → P b' r ∨ (b' = b ∧ o ≤ r.val ∧ r.val < o + n)) :
    Reads G P' ((accM.access (rowsR b o n h)).write (Elt F) f w Finset.univ) := by
  intro b' r l hr
  show accM.view.read (Elt F) (accM.view.writes (Elt F) f [⟨rowsR b o n h, w⟩]) _ = _
  by_cases hin : b' = b ∧ o ≤ r.val ∧ r.val < o + n
  · obtain ⟨rfl, h1, h2⟩ := hin
    rw [View.read_writes_cons_hit_of_coords accM.view f (rowsR b' o n h) w [] (ix3 (0 : Fin 1) (⟨r.val - o, by omega⟩ : Fin n) l) _
      (fun a => by
        match a with
        | ⟨0, _⟩ => show b'.val = b'.val + 1 * 0; omega
        | ⟨1, _⟩ => show r.val = o + 1 * (r.val - o); omega
        | ⟨2, _⟩ => show l.val = 0 + 1 * l.val; omega)]
    rw [hw]
    congr 2
    exact Fin.ext (by show o + (r.val - o) = r.val; omega)
  · have hold := (hP b' r hr).resolve_right hin
    rw [← hf b' r l hold]
    by_cases hb : b' = b
    · refine View.read_writes_cons_miss_of_axis accM.view f ⟨rowsR b o n h, w⟩ [] (ix3 b' r l) (1 : Fin 3) o n rfl rfl rfl ?_
      show r.val < o ∨ o + n ≤ r.val
      by_contra hc; exact hin ⟨hb, by omega, by omega⟩
    · refine View.read_writes_cons_miss_of_axis accM.view f ⟨rowsR b o n h, w⟩ [] (ix3 b' r l) (0 : Fin 3) b.val 1 rfl rfl rfl ?_
      show b'.val < b.val ∨ b.val + 1 ≤ b'.val
      have : b'.val ≠ b.val := fun e => hb (Fin.ext e)
      omega

/-- A whole batch replaced. -/
theorem Reads.replace {G G' : Fin 2 → FVec F S528x128 .f32} {f : accM.view.ty.Contents (Elt F)}
    (hf : Reads G (fun _ _ => True) f) (b : Fin 2) (w : (rowsR b 0 528 (Nat.le_refl _)).shape.Idx → Elt F .f32)
    (hG : ∀ b', b' ≠ b → G' b' = G b') (hw : ∀ (i : Fin 528) (l : Fin 128), w (ix3 (0 : Fin 1) i l) = G' b (ix2 i l)) :
    Reads G' (fun _ _ => True) ((accM.access (rowsR b 0 528 (Nat.le_refl _))).write (Elt F) f w Finset.univ) :=
  Reads.put (P := fun b' _ => b' ≠ b) (fun b' r l hb => by rw [hf b' r l trivial, hG b' hb]) b 0 528 _ w
    (fun i l => by rw [hw]; congr 2; exact Fin.ext (by show i.val = 0 + i.val; omega))
    (fun b' r _ => by
      by_cases hb : b' = b
      · exact .inr ⟨hb, Nat.zero_le _, by have := r.isLt; omega⟩
      · exact .inl hb)

/-- What a load of rows of a batch reads. -/
theorem Reads.load {G : Fin 2 → FVec F S528x128 .f32} {P : Fin 2 → Fin 528 → Prop} {f : accM.view.ty.Contents (Elt F)}
    (hf : Reads G P f) (b : Fin 2) (o n : ℕ) (h : o + n ≤ 528) (i : Fin n) (l : Fin 128) (hP : P b ⟨o + i.val, by omega⟩) :
    accM.view.readAt (Elt F) (rowsR b o n h).toLoadRect f (ix3 (0 : Fin 1) i l) = G b (ix2 (⟨o + i.val, by omega⟩ : Fin 528) l) := by
  rw [View.readAt_apply, ← hf b _ l hP]
  congr 1
  funext a
  match a with
  | ⟨0, _⟩ => exact Fin.ext (by show b.val + 1 * 0 = b.val; omega)
  | ⟨1, _⟩ => exact Fin.ext (by show o + 1 * i.val = o + i.val; omega)
  | ⟨2, _⟩ => exact Fin.ext (by show 0 + 1 * l.val = l.val; omega)

/-! ## The order in which a share is stored -/

/-- Batch `b`'s first `n` heads' outputs and first `m` heads' sums are stored, its zero rows if `z`, and all of the earlier batches. -/
def Stored (b : Fin 2) (n m : ℕ) (z : Bool) (b' : Fin 2) (r : Fin 528) : Prop :=
  b'.val < b.val ∨ b' = b ∧ (r.val < 64 * n ∨ (512 ≤ r.val ∧ r.val < 512 + m) ∨ (z = true ∧ 520 ≤ r.val))

theorem share_num (b : Fin 2) (h : Fin 8) (q : FVec F S256x512 .f32) (k v : FVec F S128x512 .f32) (i : Fin 64) (l : Fin 128)
    (hr : 64 * h.val + i.val < 528) :
    share b q k v (ix2 (⟨64 * h.val + i.val, hr⟩ : Fin 528) l) = num b h q k v (ix2 i l) := by
  have h8 := h.isLt
  have h64 := i.isLt
  unfold share
  rw [dif_pos (show 64 * h.val + i.val < 512 by omega)]
  have eh : (⟨(64 * h.val + i.val) / 64, by omega⟩ : Fin 8) = h := Fin.ext (by show (64 * h.val + i.val) / 64 = h.val; omega)
  have ei : (⟨(64 * h.val + i.val) % 64, by omega⟩ : Fin 64) = i := Fin.ext (by show (64 * h.val + i.val) % 64 = i.val; omega)
  show num b ⟨(64 * h.val + i.val) / 64, _⟩ q k v (ix2 (⟨(64 * h.val + i.val) % 64, _⟩ : Fin 64) l) = _
  rw [eh, ei]

theorem share_den (b : Fin 2) (h : Fin 8) (q : FVec F S256x512 .f32) (k v : FVec F S128x512 .f32) (i : Fin 1) (l : Fin 128)
    (hr : 512 + h.val + i.val < 528) :
    share b q k v (ix2 (⟨512 + h.val + i.val, hr⟩ : Fin 528) l) = den b h q k (ix2 i l) := by
  have h8 := h.isLt
  have h1 := i.isLt
  unfold share
  rw [dif_neg (show ¬ 512 + h.val + i.val < 512 by omega), dif_pos (show 512 + h.val + i.val < 520 by omega)]
  have eh : (⟨512 + h.val + i.val - 512, by omega⟩ : Fin 8) = h := Fin.ext (by show 512 + h.val + i.val - 512 = h.val; omega)
  have ei : (0 : Fin 1) = i := Fin.ext (by show 0 = i.val; omega)
  show den b ⟨512 + h.val + i.val - 512, _⟩ q k (ix2 (0 : Fin 1) l) = _
  rw [eh, ei]

theorem share_zero (b : Fin 2) (q : FVec F S256x512 .f32) (k v : FVec F S128x512 .f32) (i : Fin 8) (l : Fin 128)
    (hr : 520 + i.val < 528) :
    share b q k v (ix2 (⟨520 + i.val, hr⟩ : Fin 528) l) = Scalar.ofBits .f32 0x00000000#32 := by
  unfold share
  rw [dif_neg (show ¬ 520 + i.val < 512 by omega), dif_neg (show ¬ 520 + i.val < 520 by omega)]

end Cert.KernelIdeal.Talk

end
-- ==== Proof.KernelIdeal.Steps.lean ====
/-
  The single steps of the kernel's body: filling and reading the accumulator, writing a send slot and reading a receive
  slot, and the operations that talk to the partners. Each lemma runs the operation at the head of a program.
-/
module

public import proofs.«01_k».proof.Proof.KernelIdeal.Contents

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- Device `c` may run `p`, arriving at `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The accumulator -/

abbrev accPts (c : Dev nD) (f : accM.view.ty.Contents (Elt F)) : sProp 𝕄 := ((c : Thread nD τ).loc cc0_scratch0) ↦{fullShare} f

/-- The accumulator of device `c` reads `G` where `P` holds. -/
def filled (G : Fin 2 → FVec F S528x128 .f32) (P : Fin 2 → Fin 528 → Prop) (c : Dev nD) : sProp 𝕄 :=
  iprop(∃ f, ⌜Reads G P f⌝ ∗ accPts c f)

theorem filled_weaken {G : Fin 2 → FVec F S528x128 .f32} {P P' : Fin 2 → Fin 528 → Prop} (h : ∀ b r, P' b r → P b r) (c : Dev nD) :
    (filled G P c : sProp 𝕄) ⊢ filled G P' c := by
  unfold filled
  iintro ⟨%f, %hf, H⟩
  iexists f
  isplitr
  · ipureintro; exact fun b r l hr => hf b r l (h b r hr)
  iexact H

section Acc
variable {G G' : Fin 2 → FVec F S528x128 .f32} {P P' : Fin 2 → Fin 528 → Prop} (c : Dev nD) (b : Fin 2)

theorem load_rows {α : Type} {Q : α → sProp 𝕄} (o n : ℕ) (h : o + n ≤ 528) (hP : ∀ r : Fin 528, o ≤ r.val → r.val < o + n → P b r)
    {hl : accM.view.LoadsAt (rowsR b o n h).toLoadRect}
    {k : ((rowsR b o n h).toLoadRect.shape.Idx → Elt F .f32) → Prog (TpuEff nD τ sig (Elt F) Λ₀ .tc) α} :
    (filled G P c : sProp 𝕄) ⊢ iprop((∀ v, ⌜∀ (i : Fin n) (l : Fin 128), v (ix3 (0 : Fin 1) i l) = G b (ix2 (⟨o + i.val, by omega⟩ : Fin 528) l)⌝
        -∗ filled G P c -∗ Runs c (k v) Q)
      -∗ Runs c (.op (.load accM (rowsR b o n h).toLoadRect hl) k) Q) := by
  unfold filled
  iintro ⟨%f, %hf, H⟩ Hk
  iapply (wp_load (m := accM) 𝒱₀ (c : Thread nD τ) none Set.univ (S := Finset.univ) (Finset.subset_univ _)) $$ H
  iintro H
  iapply Hk $$ %(accM.view.readAt (Elt F) (rowsR b o n h).toLoadRect f) [] [H]
  · ipureintro
    intro i l
    exact hf.load b o n h i l (hP _ (Nat.le_add_right _ _) (Nat.add_lt_add_left i.isLt o))
  iexists f
  isplitr
  · ipureintro; exact hf
  iexact H

/-- A load whose value is not used. -/
theorem peek {α : Type} {Q : α → sProp 𝕄} {r : Rect S2x528x128} {hl : accM.view.LoadsAt r.toLoadRect}
    {k : Prog (TpuEff nD τ sig (Elt F) Λ₀ .tc) α} :
    (filled G P c : sProp 𝕄) ⊢ iprop((filled G P c -∗ Runs c k Q) -∗ Runs c (.op (.load accM r.toLoadRect hl) fun _ => k) Q) := by
  unfold filled
  iintro ⟨%f, %hf, H⟩ Hk
  iapply (wp_load (m := accM) 𝒱₀ (c : Thread nD τ) none Set.univ (S := Finset.univ) (Finset.subset_univ _)) $$ H
  iintro H
  iapply Hk
  iexists f
  isplitr
  · ipureintro; exact hf
  iexact H

/-- Rows of a batch replaced. -/
theorem set_rows {α : Type} {Q : α → sProp 𝕄} (o n : ℕ) (h : o + n ≤ 528) {w : (rowsR b o n h).shape.Idx → Elt F .f32}
    (hw : ∀ (i : Fin n) (l : Fin 128), w (ix3 (0 : Fin 1) i l) = G b (ix2 (⟨o + i.val, by omega⟩ : Fin 528) l))
    (hP : ∀ b' r, P' b' r → P b' r ∨ (b' = b ∧ o ≤ r.val ∧ r.val < o + n))
    {hx : (accM.access (rowsR b o n h)).Stores Finset.univ} {hm} {k : PUnit → Prog (TpuEff nD τ sig (Elt F) Λ₀ .tc) α} :
    (filled G P c : sProp 𝕄) ⊢ iprop((filled G P' c -∗ Runs c (k ⟨⟩) Q)
      -∗ Runs c (.op (.store accM (rowsR b o n h) w Finset.univ hx hm) k) Q) := by
  unfold filled
  iintro ⟨%f, %hf, H⟩ Hk
  iapply (wp_store (m := accM) (r := rowsR b o n h) 𝒱₀ (c : Thread nD τ) none Set.univ (S := Finset.univ) (Finset.subset_univ _)) $$ H
  iintro H
  iapply Hk
  iexists ((accM.access (rowsR b o n h)).write (Elt F) f w Finset.univ)
  isplitr
  · ipureintro; exact hf.put b o n h w hw hP
  iexact H

/-- Rows of a batch replaced, after a look at what they were. -/
theorem put_rows {α : Type} {Q : α → sProp 𝕄} (o n : ℕ) (h : o + n ≤ 528) {w : (rowsR b o n h).shape.Idx → Elt F .f32}
    (hw : ∀ (i : Fin n) (l : Fin 128), w (ix3 (0 : Fin 1) i l) = G b (ix2 (⟨o + i.val, by omega⟩ : Fin 528) l))
    (hP : ∀ b' r, P' b' r → P b' r ∨ (b' = b ∧ o ≤ r.val ∧ r.val < o + n))
    {hl : accM.view.LoadsAt (rowsR b o n h).toLoadRect} {hx : (accM.access (rowsR b o n h)).Stores Finset.univ} {hm}
    {k : PUnit → Prog (TpuEff nD τ sig (Elt F) Λ₀ .tc) α} :
    (filled G P c : sProp 𝕄) ⊢ iprop((filled G P' c -∗ Runs c (k ⟨⟩) Q)
      -∗ Runs c (.op (.load accM (rowsR b o n h).toLoadRect hl) fun _ => .op (.store accM (rowsR b o n h) w Finset.univ hx hm) k) Q) := by
  iintro H Hk
  iapply (peek c) $$ H
  iintro H
  iapply (set_rows c b o n h hw hP) $$ H Hk

theorem load_whole {α : Type} {Q : α → sProp 𝕄} (hP : ∀ r, P b r) {hl : accM.view.LoadsAt (rowsR b 0 528 (Nat.le_refl _)).toLoadRect}
    {k : ((rowsR b 0 528 (Nat.le_refl _)).toLoadRect.shape.Idx → Elt F .f32) → Prog (TpuEff nD τ sig (Elt F) Λ₀ .tc) α} :
    (filled G P c : sProp 𝕄) ⊢ iprop((∀ v : Vec F S1x528x128 .f32, ⌜shapeCast S528x128 v shapeCasts_S1x528x128_S528x128 = G b⌝
        -∗ filled G P c -∗ Runs c (k v) Q)
      -∗ Runs c (.op (.load accM (rowsR b 0 528 (Nat.le_refl _)).toLoadRect hl) k) Q) := by
  iintro H Hk
  iapply (load_rows c b 0 528 (Nat.le_refl _) (fun r _ _ => hP r)) $$ H
  iintro %v %hv H
  iapply Hk $$ %v [] H
  ipureintro
  funext y
  rw [eq_ix2 y]
  refine (shapeCast_1ab_ab_apply (a := 528) (b := 128) v _ _ _).trans ((hv _ _).trans ?_)
  congr 2
  exact Fin.ext (Nat.zero_add _)

/-- A whole batch replaced. -/
theorem put_whole {α : Type} {Q : α → sProp 𝕄} {w : Vec F S1x528x128 .f32} (hP : ∀ b' r, P' b' r → b' ≠ b → P b' r) (hG : ∀ b', b' ≠ b → G' b' = G b')
    (hw : shapeCast S528x128 w shapeCasts_S1x528x128_S528x128 = G' b)
    {hl : accM.view.LoadsAt (rowsR b 0 528 (Nat.le_refl _)).toLoadRect}
    {hx : (accM.access (rowsR b 0 528 (Nat.le_refl _))).Stores Finset.univ} {hm}
    {k : PUnit → Prog (TpuEff nD τ sig (Elt F) Λ₀ .tc) α} :
    (filled G P c : sProp 𝕄) ⊢ iprop((filled G' P' c -∗ Runs c (k ⟨⟩) Q)
      -∗ Runs c (.op (.load accM (rowsR b 0 528 (Nat.le_refl _)).toLoadRect hl)
          fun _ => .op (.store accM (rowsR b 0 528 (Nat.le_refl _)) w Finset.univ hx hm) k) Q) := by
  have e : (filled G P c : sProp 𝕄) ⊢ filled G' (fun b' r => P b' r ∧ b' ≠ b) c := by
    unfold filled
    iintro ⟨%f, %hf, H⟩
    iexists f
    isplitr
    · ipureintro; exact fun b' r l hr => by rw [hf b' r l hr.1, hG b' hr.2]
    iexact H
  refine e.trans (put_rows c b 0 528 (Nat.le_refl _) (fun i l => ?_) fun b' r hr => ?_)
  · refine (shapeCast_1ab_ab_apply (a := 528) (b := 128) w shapeCasts_S1x528x128_S528x128 i l).symm.trans ((congrFun hw _).trans ?_)
    congr 2
    exact Fin.ext (Nat.zero_add _).symm
  · by_cases hb : b' = b
    · exact .inr ⟨hb, Nat.zero_le _, by have := r.isLt; omega⟩
    · exact .inl ⟨hP b' r hr hb, hb⟩

variable (I : Dev nD → Ins F)

theorem put_num {α : Type} {Q : α → sProp 𝕄} (h : Fin 8) (n n' m : ℕ) (hn : n = h.val) (hn' : n' = h.val + 1) (z : Bool) {w : Vec F S1x64x128 .f32}
    (hw : w = shapeCast S1x64x128 (num b h (k0_pay1 (I c).x (I c).wq) (batch b (I c).k) (batch b (I c).v)) shapeCasts_S64x128_S1x64x128)
    (ho : 64 * h.val + 64 ≤ 528)
    {hl : accM.view.LoadsAt (rowsR b (64 * h.val) 64 ho).toLoadRect}
    {hx : (accM.access (rowsR b (64 * h.val) 64 ho)).Stores Finset.univ} {hm}
    {k : PUnit → Prog (TpuEff nD τ sig (Elt F) Λ₀ .tc) α} :
    (filled (fun b => acc I 0 b c) (Stored b n m z) c : sProp 𝕄) ⊢ iprop((filled (fun b => acc I 0 b c) (Stored b n' m z) c -∗ Runs c (k ⟨⟩) Q)
      -∗ Runs c (.op (.load accM (rowsR b (64 * h.val) 64 ho).toLoadRect hl)
          fun _ => .op (.store accM (rowsR b (64 * h.val) 64 ho) w Finset.univ hx hm) k) Q) := by
  subst hn hn' hw
  refine put_rows c b (64 * h.val) 64 ho (fun i l => ?_) fun b' r hr => ?_
  · exact (shapeCast_ab_1ab_apply (a := 64) (b := 128) _ _ _ _ _).trans (share_num b h _ _ _ i l _).symm
  · unfold Stored at hr ⊢
    rcases hr with hr | ⟨hb, hr | hr⟩
    · exact .inl (.inl hr)
    · by_cases hlt : r.val < 64 * h.val
      · exact .inl (.inr ⟨hb, .inl hlt⟩)
      · exact .inr ⟨hb, by omega, by omega⟩
    · exact .inl (.inr ⟨hb, .inr hr⟩)

theorem set_den {α : Type} {Q : α → sProp 𝕄} (h : Fin 8) (n m m' : ℕ) (hn : m = h.val) (hn' : m' = h.val + 1) (z : Bool) {w : Vec F S1x1x128 .f32}
    (hw : w = shapeCast S1x1x128 (den b h (k0_pay1 (I c).x (I c).wq) (batch b (I c).k)) shapeCasts_S1x128_S1x1x128)
    (ho : 512 + h.val + 1 ≤ 528)
    {hx : (accM.access (rowsR b (512 + h.val) 1 ho)).Stores Finset.univ} {hm}
    {k : PUnit → Prog (TpuEff nD τ sig (Elt F) Λ₀ .tc) α} :
    (filled (fun b => acc I 0 b c) (Stored b n m z) c : sProp 𝕄) ⊢ iprop((filled (fun b => acc I 0 b c) (Stored b n m' z) c -∗ Runs c (k ⟨⟩) Q)
      -∗ Runs c (.op (.store accM (rowsR b (512 + h.val) 1 ho) w Finset.univ hx hm) k) Q) := by
  subst hn hn' hw
  refine set_rows c b (512 + h.val) 1 ho (fun i l => ?_) fun b' r hr => ?_
  · exact (shapeCast_ab_1ab_apply (a := 1) (b := 128) _ _ _ _ _).trans (share_den b h _ _ _ i l _).symm
  · unfold Stored at hr ⊢
    rcases hr with hr | ⟨hb, hr | hr | hr⟩
    · exact .inl (.inl hr)
    · exact .inl (.inr ⟨hb, .inl hr⟩)
    · by_cases hlt : r.val < 512 + h.val
      · exact .inl (.inr ⟨hb, .inr (.inl ⟨hr.1, hlt⟩)⟩)
      · exact .inr ⟨hb, by omega, by omega⟩
    · exact .inl (.inr ⟨hb, .inr (.inr hr)⟩)

theorem put_den {α : Type} {Q : α → sProp 𝕄} (h : Fin 8) (n m m' : ℕ) (hn : m = h.val) (hn' : m' = h.val + 1) (z : Bool) {w : Vec F S1x1x128 .f32}
    (hw : w = shapeCast S1x1x128 (den b h (k0_pay1 (I c).x (I c).wq) (batch b (I c).k)) shapeCasts_S1x128_S1x1x128)
    (ho : 512 + h.val + 1 ≤ 528)
    {hl : accM.view.LoadsAt (rowsR b (512 + h.val) 1 ho).toLoadRect}
    {hx : (accM.access (rowsR b (512 + h.val) 1 ho)).Stores Finset.univ} {hm}
    {k : PUnit → Prog (TpuEff nD τ sig (Elt F) Λ₀ .tc) α} :
    (filled (fun b => acc I 0 b c) (Stored b n m z) c : sProp 𝕄) ⊢ iprop((filled (fun b => acc I 0 b c) (Stored b n m' z) c -∗ Runs c (k ⟨⟩) Q)
      -∗ Runs c (.op (.load accM (rowsR b (512 + h.val) 1 ho).toLoadRect hl)
          fun _ => .op (.store accM (rowsR b (512 + h.val) 1 ho) w Finset.univ hx hm) k) Q) := by
  iintro H Hk
  iapply (peek c) $$ H
  iintro H
  iapply (set_den c b I h n m m' hn hn' z hw ho) $$ H Hk

/-- The outputs and the sums of a head. -/
theorem put_head {α : Type} {Q : α → sProp 𝕄} (h : Fin 8) (n n' : ℕ) (hn : n = h.val) (hn' : n' = h.val + 1) (z : Bool)
    {w : Vec F S1x64x128 .f32} {w' : Vec F S1x1x128 .f32}
    (hw : w = shapeCast S1x64x128 (num b h (k0_pay1 (I c).x (I c).wq) (batch b (I c).k) (batch b (I c).v)) shapeCasts_S64x128_S1x64x128)
    (hw' : w' = shapeCast S1x1x128 (den b h (k0_pay1 (I c).x (I c).wq) (batch b (I c).k)) shapeCasts_S1x128_S1x1x128)
    (ho : 64 * h.val + 64 ≤ 528) (ho' : 512 + h.val + 1 ≤ 528)
    {hl : accM.view.LoadsAt (rowsR b (64 * h.val) 64 ho).toLoadRect}
    {hx : (accM.access (rowsR b (64 * h.val) 64 ho)).Stores Finset.univ} {hm}
    {hl' : accM.view.LoadsAt (rowsR b (512 + h.val) 1 ho').toLoadRect}
    {hx' : (accM.access (rowsR b (512 + h.val) 1 ho')).Stores Finset.univ} {hm'}
    {k : PUnit → Prog (TpuEff nD τ sig (Elt F) Λ₀ .tc) α} :
    (filled (fun b => acc I 0 b c) (Stored b n n z) c : sProp 𝕄) ⊢ iprop((filled (fun b => acc I 0 b c) (Stored b n' n' z) c -∗ Runs c (k ⟨⟩) Q)
      -∗ Runs c (.op (.load accM (rowsR b (64 * h.val) 64 ho).toLoadRect hl)
          fun _ => .op (.store accM (rowsR b (64 * h.val) 64 ho) w Finset.univ hx hm)
          fun _ => .op (.load accM (rowsR b (512 + h.val) 1 ho').toLoadRect hl')
          fun _ => .op (.store accM (rowsR b (512 + h.val) 1 ho') w' Finset.univ hx' hm') k) Q) := by
  iintro H Hk
  iapply (put_num c b I h n n' n hn hn' z hw ho) $$ H
  iintro H
  iapply (put_den c b I h n' n n' hn hn' z hw' ho') $$ H Hk

theorem put_zero {α : Type} {Q : α → sProp 𝕄} (n m : ℕ) {w : Vec F S1x8x128 .f32}
    (hw : w = shapeCast S1x8x128 (broadcast S8x128 (Scalar.ofBits .f32 0x00000000#32)) shapeCasts_S8x128_S1x8x128)
    (ho : 520 + 8 ≤ 528)
    {hl : accM.view.LoadsAt (rowsR b 520 8 ho).toLoadRect} {hx : (accM.access (rowsR b 520 8 ho)).Stores Finset.univ} {hm}
    {k : PUnit → Prog (TpuEff nD τ sig (Elt F) Λ₀ .tc) α} :
    (filled (fun b => acc I 0 b c) (Stored b n m false) c : sProp 𝕄) ⊢ iprop((filled (fun b => acc I 0 b c) (Stored b n m true) c -∗ Runs c (k ⟨⟩) Q)
      -∗ Runs c (.op (.load accM (rowsR b 520 8 ho).toLoadRect hl) fun _ => .op (.store accM (rowsR b 520 8 ho) w Finset.univ hx hm) k) Q) := by
  subst hw
  refine put_rows c b 520 8 ho (fun i l => ?_) fun b' r hr => ?_
  · exact (shapeCast_ab_1ab_apply (a := 8) (b := 128) _ _ _ _ _).trans (share_zero b _ _ _ i l (by omega)).symm
  · unfold Stored at hr ⊢
    rcases hr with hr | ⟨hb, hr | hr | hr⟩
    · exact .inl (.inl hr)
    · exact .inl (.inr ⟨hb, .inl hr⟩)
    · exact .inl (.inr ⟨hb, .inr (.inl hr)⟩)
    · exact .inr ⟨hb, hr.2, by have := r.isLt; omega⟩

end Acc

/-! ## The slots -/

/-- The send slot, the receive slot, reading `X`. -/
def sFull (c : Dev nD) (s : Fin 3) (b : Fin 2) (X : Vec F S528x128 .bf16) : sProp 𝕄 :=
  iprop(∃ f, ⌜(sSlot s b).view.read (Elt F) f = X⌝ ∗ sPts c s b f)
def rFull (c : Dev nD) (s : Fin 3) (b : Fin 2) (X : Vec F S528x128 .bf16) : sProp 𝕄 :=
  iprop(∃ f, ⌜(rSlot s b).view.read (Elt F) f = X⌝ ∗ rPts c s b f)

theorem sSlot_set (s : Fin 3) (b : Fin 2) : (sSlot s b).view.set = (slotR s b).set :=
  (View.set_reshape _ _).trans (View.set_slice_whole cc0_scratch1 (slotR s b))
theorem rSlot_set (s : Fin 3) (b : Fin 2) : (rSlot s b).view.set = (slotR s b).set :=
  (View.set_reshape _ _).trans (View.set_slice_whole cc0_scratch2 (slotR s b))

section Slots
variable (c : Dev nD) (s : Fin 3) (b : Fin 2)

theorem load_recv {α : Type} {Q : α → sProp 𝕄} {X : Vec F S528x128 .bf16} {hl : rM.view.LoadsAt (slotR s b).toLoadRect}
    {k : ((slotR s b).toLoadRect.shape.Idx → Elt F .bf16) → Prog (TpuEff nD τ sig (Elt F) Λ₀ .tc) α} :
    (rFull c s b X : sProp 𝕄) ⊢ iprop((∀ v : Vec F S1x1x528x128 .bf16, ⌜shapeCast S528x128 v shapeCasts_S1x1x528x128_S528x128 = X⌝ -∗ rFull c s b X -∗ Runs c (k v) Q)
      -∗ Runs c (.op (.load rM (slotR s b).toLoadRect hl) k) Q) := by
  unfold rFull
  iintro ⟨%f, %hf, H⟩ Hk
  iapply (wp_load (m := rM) 𝒱₀ (c : Thread nD τ) none Set.univ (S := (rSlot s b).view.set) (by
    rw [rSlot_set]; exact fun i hi => by obtain ⟨j, hj, rfl⟩ := Finset.mem_map.mp hi; exact hj)) $$ H
  iintro H
  iapply Hk $$ %(rM.view.readAt (Elt F) (slotR s b).toLoadRect f) [] [H]
  · ipureintro; exact hf
  iexists f
  isplitr
  · ipureintro; exact hf
  iexact H

theorem put_slot {α : Type} {Q : α → sProp 𝕄} {X : Vec F S528x128 .bf16} {w : Vec F S1x1x528x128 .bf16}
    (hw : shapeCast S528x128 w shapeCasts_S1x1x528x128_S528x128 = X)
    {hl : sM.view.LoadsAt (slotR s b).toLoadRect} {hx : (sM.access (slotR s b)).Stores Finset.univ} {hm}
    {k : PUnit → Prog (TpuEff nD τ sig (Elt F) Λ₀ .tc) α} :
    (iprop(∃ f, sPts c s b f) : sProp 𝕄) ⊢ iprop((sFull c s b X -∗ Runs c (k ⟨⟩) Q)
      -∗ Runs c (.op (.load sM (slotR s b).toLoadRect hl) fun _ => .op (.store sM (slotR s b) w Finset.univ hx hm) k) Q) := by
  unfold sFull
  iintro ⟨%f, H⟩ Hk
  iapply (wp_load (m := sM) 𝒱₀ (c : Thread nD τ) none Set.univ (S := (sSlot s b).view.set) (by
    rw [sSlot_set]; exact fun i hi => by obtain ⟨j, hj, rfl⟩ := Finset.mem_map.mp hi; exact hj)) $$ H
  iintro H
  iapply (wp_store (m := sM) (r := slotR s b) 𝒱₀ (c : Thread nD τ) none Set.univ (S := (sSlot s b).view.set) (by
    rw [sSlot_set]; exact subset_of_eq (View.set_slice_whole cc0_scratch1 (slotR s b)))) $$ H
  iintro H
  iapply Hk
  iexists ((sM.access (slotR s b)).write (Elt F) f w Finset.univ)
  isplitr
  · ipureintro
    rw [← hw]
    have e : (sM.access (slotR s b)).read (Elt F) ((sM.access (slotR s b)).write (Elt F) f w Finset.univ) = w := View.read_write_univ _ _
    rw [Memref.read_squeeze_slice sM (slotR s b) (fun _ => rfl) squeezes_S1x1x528x128_S528x128 shapeCasts_S1x1x528x128_S528x128]
    exact congrArg (fun u => shapeCast S528x128 u shapeCasts_S1x1x528x128_S528x128) e
  iexact H

end Slots

/-! ## A window's buffer -/

section Windows
variable (c : Dev nD)

theorem load_owned {α : Type} {Q : α → sProp 𝕄} {sp : CoreSpace} {sh : Shape} {e : EltTy} (m : Memref sig .tc sp sh e) (q : PosShare TreeShare) (X : sh.Idx → Elt F e) (r : LoadRect sh)
    {hl : m.view.LoadsAt r} {k : (r.shape.Idx → Elt F e) → Prog (TpuEff nD τ sig (Elt F) Λ₀ .tc) α} :
    (owns (c : Thread nD τ) m q X : sProp 𝕄) ⊢ iprop((owns (c : Thread nD τ) m q X -∗ Runs c (k fun y => X (r.idx y)) Q)
      -∗ Runs c (.op (.load m r hl) k) Q) := by
  unfold owns
  iintro ⟨%f, %hf, H⟩ Hk
  iapply (wp_load (m := m) 𝒱₀ (c : Thread nD τ) none Set.univ (S := m.view.set) (View.setOn_subset_set _ _)) $$ H
  iintro H
  subst hf
  iapply Hk
  iexists f
  isplitr
  · ipureintro; rfl
  iexact H

/-- The same, with the value read given by another name. -/
theorem load_as {α : Type} {Q : α → sProp 𝕄} {sp : CoreSpace} {sh : Shape} {e : EltTy} (m : Memref sig .tc sp sh e) (q : PosShare TreeShare) (X : sh.Idx → Elt F e) (r : LoadRect sh)
    (v : r.shape.Idx → Elt F e) (hv : (fun y => X (r.idx y)) = v)
    {hl : m.view.LoadsAt r} {k : (r.shape.Idx → Elt F e) → Prog (TpuEff nD τ sig (Elt F) Λ₀ .tc) α} :
    (owns (c : Thread nD τ) m q X : sProp 𝕄) ⊢ iprop((owns (c : Thread nD τ) m q X -∗ Runs c (k v) Q)
      -∗ Runs c (.op (.load m r hl) k) Q) := by
  subst hv; exact load_owned c m q X r

theorem whole_idx {sh : Shape} {β : Type} (X : sh.Idx → β) (off : Fin sh.rank → ℕ) (inb : ∀ a, off a + sh.size a ≤ sh.size a) (h0 : ∀ a, off a = 0) :
    (fun y : sh.Idx => X ((Rect.unit (s := sh) off sh.size inb).toLoadRect.idx y)) = X :=
  funext fun y => congrArg X (funext fun a => Fin.ext (by show off a + 1 * (y a).val = (y a).val; rw [h0 a]; omega))

/-- A part of a buffer replaced, after a look at it. -/
theorem put_owned {α : Type} {Q : α → sProp 𝕄} {sp : CoreSpace} {sh : Shape} {e : EltTy} (m : Memref sig .tc sp sh e) (X : sh.Idx → Elt F e) (r : Rect sh)
    {w : r.shape.Idx → Elt F e} {hl : m.view.LoadsAt r.toLoadRect} {hx : (m.access r).Stores Finset.univ} {hm}
    {k : PUnit → Prog (TpuEff nD τ sig (Elt F) Λ₀ .tc) α} :
    (owns (c : Thread nD τ) m fullShare X : sProp 𝕄) ⊢ iprop((∀ X', ⌜(∀ y, X' (r.emb y) = w y) ∧ ∀ j, j ∉ Finset.univ.map r.emb → X' j = X j⌝
        -∗ owns (c : Thread nD τ) m fullShare X' -∗ Runs c (k ⟨⟩) Q)
      -∗ Runs c (.op (.load m r.toLoadRect hl) fun _ => .op (.store m r w Finset.univ hx hm) k) Q) := by
  unfold owns
  iintro ⟨%f, %hf, H⟩ Hk
  iapply (wp_load (m := m) 𝒱₀ (c : Thread nD τ) none Set.univ (S := m.view.set) (View.setOn_subset_set _ _)) $$ H
  iintro H
  iapply (wp_store (m := m) (r := r) 𝒱₀ (c : Thread nD τ) none Set.univ (S := m.view.set) (View.set_slice_subset _ _)) $$ H
  iintro H
  subst hf
  iapply Hk $$ %(m.view.read (Elt F) ((m.access r).write (Elt F) f w Finset.univ)) [] [H]
  · ipureintro
    exact ⟨fun y => View.read_slice_write_emb r f w (Finset.mem_univ y), fun j hj => View.read_slice_write_of_not_mem r f w _ hj⟩
  iexists ((m.access r).write (Elt F) f w Finset.univ)
  isplitr
  · ipureintro; rfl
  iexact H

end Windows

end Cert.KernelIdeal.Talk

end
-- ==== Proof.KernelIdeal.Talk.lean ====
/-
  The operations that talk to the partners, each at the head of a program: telling a partner that the own receive slots
  are free, waiting for the three partners, sending a slot, and the waits on the receive and the send cells.
-/
module

public import proofs.«01_k».proof.Proof.KernelIdeal.Steps

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (B : Sent F) (K : GSem nD τ sig → ℕ)

/-! ## What every device knows and what it holds -/

/-- The cells of all devices follow the schedule, and the barrier cells are open. -/
def recs : sProp 𝕄 :=
  iprop((bigSep Finset.univ fun c : Dev nD => cellInv ER (sched B) (K (barCell c)) (barCell c))
    ∗ (bigSep Finset.univ fun p : Dev nD × Fin 3 × Fin 2 => cellInv ER (sched B) (K (sendCell p.1 p.2.1 p.2.2)) (sendCell p.1 p.2.1 p.2.2))
    ∗ (bigSep Finset.univ fun p : Dev nD × Fin 3 × Fin 2 => cellInv ER (sched B) (K (recvCell p.1 p.2.1 p.2.2)) (recvCell p.1 p.2.1 p.2.2))
    ∗ bigSep Finset.univ fun c : Dev nD => reached ER (barCell c) 0)

instance recs_persistent : BI.Persistent (recs B K) := by unfold recs; infer_instance

/-- One of a family of facts. -/
theorem pick {J : Type} [DecidableEq J] {S : Finset J} {j : J} (h : j ∈ S) {Φ : J → sProp 𝕄} : (bigSep S Φ : sProp 𝕄) ⊢ Φ j := bigSep_elim h

theorem inv_bar (c : Dev nD) : recs B K ⊢ cellInv ER (sched B) (K (barCell c)) (barCell c) := by
  unfold recs
  iintro ⟨H, -, -, -⟩
  iapply (pick (Finset.mem_univ c) (Φ := fun c : Dev nD => cellInv ER (sched B) (K (barCell c)) (barCell c))) $$ H
theorem inv_send (c : Dev nD) (s : Fin 3) (b : Fin 2) : recs B K ⊢ cellInv ER (sched B) (K (sendCell c s b)) (sendCell c s b) := by
  unfold recs
  iintro ⟨-, H, -, -⟩
  iapply (pick (Finset.mem_univ (c, s, b)) (Φ := fun p : Dev nD × Fin 3 × Fin 2 =>
    cellInv ER (sched B) (K (sendCell p.1 p.2.1 p.2.2)) (sendCell p.1 p.2.1 p.2.2))) $$ H
theorem inv_recv (c : Dev nD) (s : Fin 3) (b : Fin 2) : recs B K ⊢ cellInv ER (sched B) (K (recvCell c s b)) (recvCell c s b) := by
  unfold recs
  iintro ⟨-, -, H, -⟩
  iapply (pick (Finset.mem_univ (c, s, b)) (Φ := fun p : Dev nD × Fin 3 × Fin 2 =>
    cellInv ER (sched B) (K (recvCell p.1 p.2.1 p.2.2)) (recvCell p.1 p.2.1 p.2.2))) $$ H
theorem open_bar (c : Dev nD) : recs B K ⊢ reached ER (barCell c) 0 := by
  unfold recs
  iintro ⟨-, -, -, H⟩
  iapply (pick (Finset.mem_univ c) (Φ := fun c : Dev nD => (reached ER (barCell c) 0 : sProp 𝕄))) $$ H

/-- Device `c` still owes the payments of `l`. -/
def debt (c : Dev nD) (l : List (GSem nD τ sig × ℕ)) : sProp 𝕄 := iprop(∃ W, owes (c : Thread nD τ) (owing l) W)
/-- The rights with which device `c` sends in step `s`. -/
def toks (c : Dev nD) (s : Fin 3) (b : Fin 2) : sProp 𝕄 :=
  iprop(dutyTok ER (sendCell c s b) 0 0 ∗ reached ER (sendCell c s b) 0 ∗ dutyTok ER (recvCell (peer s c) s b) 0 0)
/-- The partner's receive slot, handed to device `c`. -/
def slotOf (c : Dev nD) (s : Fin 3) (b : Fin 2) : sProp 𝕄 :=
  iprop((∃ f, rPts (peer s c) s b f) ∗ reached ER (recvCell (peer s c) s b) 0)
/-- The right to wait on a receive cell, on a send cell, and what is left of a cell after its round. -/
def mayRecv (c : Dev nD) (s : Fin 3) (b : Fin 2) : sProp 𝕄 :=
  iprop(cred (tallyAt (recvCell c s b) () N) ∗ atPos ER (recvCell c s b) 0 ∅ 0)
def maySend (c : Dev nD) (s : Fin 3) (b : Fin 2) : sProp 𝕄 :=
  iprop(cred (tallyAt (sendCell c s b) () N) ∗ atPos ER (sendCell c s b) 0 ∅ 0)

section
variable (c : Dev nD)

/-- The signal to the partner of step `k` hands over the own receive slots of that step. -/
theorem run_signal {α : Type} {Q : α → sProp 𝕄} (k : Fin 3) (d : Dev nD) (hd : d = peer k c) (l : List (GSem nD τ sig × ℕ))
    {kk : PUnit → Prog (TpuEff nD τ sig (Elt F) Λ₀ .tc) α} :
    iprop(recs B K ∗ debt c ((barCell (peer k c), 1) :: l) ∗ dutyTok ER (barCell (peer k c)) 0 k
        ∗ (∃ f, rPts c k 0 f) ∗ (∃ f, rPts c k 1 f) ∗ reached ER (recvCell c k 0) 0 ∗ reached ER (recvCell c k 1) 0)
      ⊢ iprop((debt c l -∗ Runs c (kk ⟨⟩) Q) -∗ Runs c (.op (.semSignal (Dev.tc d) barrier0 1) kk) Q) := by
  subst hd
  unfold debt
  iintro ⟨#HR, ⟨%W, HO⟩, Ht, Hf0, Hf1, #Hr0, #Hr1⟩ Hk
  iapply (Rounds.wp_signal 𝒱₀ ER (sched B) (c : Thread nD τ) none (dst := (peer k c : Thread nD τ)) (sem := barrier0) (r := 0) (d := k)
    (κ := K (barCell (peer k c))) (by rw [duties_bar]; exact Finset.mem_univ _) rfl () (owing l) rfl (W := W)) $$ [HO Ht Hf0 Hf1]
  · isplitr
    · iapply (inv_bar B K (peer k c)) $$ HR
    isplitl [HO]
    · iexact HO
    isplitl [Ht]
    · iexact Ht
    isplitl [Hf0 Hf1]
    · rw [show (sched B).payload ((peer k c : Thread nD τ), .reg barrier0) 0 k = barPay (peer k c) k from rfl]
      unfold barPay
      rw [peer_peer]
      isplitl [Hf0]
      · iexact Hf0
      isplitl [Hf1]
      · iexact Hf1
      isplitr
      · iexact Hr0
      iexact Hr1
    iapply (open_bar B K (peer k c)) $$ HR
  iintro HO
  iapply Hk
  iexists W
  iexact HO

/-- The wait for the three partners. -/
theorem run_barrier {α : Type} {Q : α → sProp 𝕄} (l : List (GSem nD τ sig × ℕ))
    (hl : ∀ p ∈ l, p.1.1.2 = .tc ∧ 1 < lv p.1 ()) {kk : PUnit → Prog (TpuEff nD τ sig (Elt F) Λ₀ .tc) α} :
    iprop(recs B K ∗ levAts L lv ∗ cred (tallyAt (barCell c) () 3) ∗ atPos ER (barCell c) 0 ∅ 0 ∗ debt c l)
      ⊢ iprop(((debt c l ∗ atPos ER (barCell c) 1 ∅ 0 ∗ (slotOf c 0 0 ∗ slotOf c 0 1) ∗ (slotOf c 1 0 ∗ slotOf c 1 1) ∗ (slotOf c 2 0 ∗ slotOf c 2 1))
          -∗ Runs c (kk ⟨⟩) Q) -∗ Runs c (.op (.semWait barrier0 3) kk) Q) := by
  unfold debt
  iintro ⟨#HR, #HL, Hc, Ha, ⟨%W, HO⟩⟩ Hk
  iapply (Rounds.wp_wait_rest_token 𝒱₀ ER (sched B) (c : Thread nD τ) none (κ := K (barCell c))
    (wpE_semWait_eq 𝒱₀ (c : Thread nD τ) none Set.univ) (Set.mem_univ _) () (O := owing l) (W := W) (R := 0) (m := 0) (T := ∅)
    ((Nat.zero_add 3).trans (expect_bar B c).symm)) $$ [Hc HO Ha]
  · isplitr
    · iapply (inv_bar B K c) $$ HR
    isplitl [Hc]
    · iexact Hc
    isplitl [HO]
    · iexact HO
    isplitr
    · iapply (mayWait_owing c (.reg barrier0) l hl) $$ HL
    iexact Ha
  iintro ⟨HO, Ha, -, Hp⟩
  ihave Hp := (Entails.of_eq (rest_bar B c)) $$ Hp
  unfold barPay slotOf
  icases Hp with ⟨⟨H00, H01, #R00, #R01⟩, ⟨H10, H11, #R10, #R11⟩, ⟨H20, H21, #R20, #R21⟩⟩
  iapply Hk
  isplitl [HO]
  · iexists _; iexact HO
  isplitl [Ha]
  · iexact Ha
  isplitl [H00 H01]
  · isplitl [H00]
    · isplitl [H00]
      · iexact H00
      iexact R00
    isplitl [H01]
    · iexact H01
    iexact R01
  isplitl [H10 H11]
  · isplitl [H10]
    · isplitl [H10]
      · iexact H10
      iexact R10
    isplitl [H11]
    · iexact H11
    iexact R11
  isplitl [H20]
  · isplitl [H20]
    · iexact H20
    iexact R20
  isplitl [H21]
  · iexact H21
  iexact R21

/-- A transfer to the partner of step `s`. -/
theorem run_send {α : Type} {Q : α → sProp 𝕄} (s : Fin 3) (b : Fin 2) (d : Dev nD) (hd : d = peer s c) (l : List (GSem nD τ sig × ℕ))
    {hsc : (rSlot s b).view.ref.isScScratch = false} {hsrc : (sSlot s b).view.WordExact} {hdst : (rSlot s b).view.WordExact}
    {hsem : DmaTarget.Typed (.core .vmem) (.dma (recvSem s b)) (.remote (Dev.tc d) (rSlot s b) (.dma (sendSem s b)) hsc)}
    {kk : PUnit → Prog (TpuEff nD τ sig (Elt F) Λ₀ .tc) α} :
    iprop(recs B K ∗ toks c s b ∗ slotOf c s b ∗ sFull c s b (B s b c) ∗ debt c ((recvCell (peer s c) s b, N) :: l))
      ⊢ iprop(((cred (tallyAt (sendCell c s b) () N) ∗ debt c l) -∗ Runs c (kk ⟨⟩) Q)
        -∗ Runs c (.op (.enqueueDma (sSlot s b) (.remote (Dev.tc d) (rSlot s b) (.dma (sendSem s b)) hsc) (.dma (recvSem s b)) hsrc hdst hsem) kk) Q) := by
  subst hd
  unfold debt toks slotOf sFull
  iintro ⟨#HR, ⟨Ht, #Hrs, Ht'⟩, ⟨⟨%fd, Hd⟩, #Hrr⟩, ⟨%fs, %hfs, Hs⟩, ⟨%W, HO⟩⟩ Hk
  iapply (Rounds.wp_send_pointsTo 𝒱₀ ER (sched B) (c : Thread nD τ) none (c' := (peer s c : Thread nD τ)) (src := sSlot s b) (dst := rSlot s b)
    (sS := .dma (sendSem s b)) (sem := .dma (recvSem s b)) (q := fullShare) (fs := fs) (κ₁ := K (sendCell c s b)) (κ₂ := K (recvCell (peer s c) s b))
    (r₁ := 0) (r₂ := 0) (d₁ := 0) (d₂ := 0) (fd := fd)
    (by rw [duties_send]; exact Finset.mem_singleton_self _) (by rw [duties_recv]; exact Finset.mem_singleton_self _)
    () () N rfl rfl rfl (owing l) rfl (W := W)
    (by
      rw [payload_send]; unfold sendPay
      iintro H; iexists fs; iexact H)
    (by
      rw [payload_recv]; unfold recvPay
      rw [peer_peer]
      iintro H
      iexists ((rSlot s b).view.write (Elt F) fd ((sSlot s b).view.read (Elt F) fs) Finset.univ)
      isplitr
      · ipureintro; exact (View.read_write_univ _ _).trans hfs
      iexact H)) $$ [Hs Hd HO Ht Ht']
  · isplitr
    · iapply (inv_send B K c s b) $$ HR
    isplitr
    · iapply (inv_recv B K (peer s c) s b) $$ HR
    isplitl [Hs]
    · iexact Hs
    isplitl [Hd]
    · iexact Hd
    isplitl [HO]
    · iexact HO
    isplitl [Ht]
    · iexact Ht
    isplitr
    · iexact Hrs
    isplitl [Ht']
    · iexact Ht'
    iexact Hrr
  iintro ⟨Hc, HO⟩
  iapply Hk
  isplitl [Hc]
  · iexact Hc
  iexists W
  iexact HO

/-- The wait for the partner's transfer of step `s`. -/
theorem run_recv {α : Type} {Q : α → sProp 𝕄} (s : Fin 3) (b : Fin 2) (l : List (GSem nD τ sig × ℕ))
    (hl : ∀ p ∈ l, p.1.1.2 = .tc ∧ 2 + s.val < lv p.1 ())
    {hsrc : (sSlot s b).view.WordExact} {hdst : (rSlot s b).view.WordExact} {kk : PUnit → Prog (TpuEff nD τ sig (Elt F) Λ₀ .tc) α} :
    iprop(recs B K ∗ levAts L lv ∗ mayRecv c s b ∗ debt c l)
      ⊢ iprop(((debt c l ∗ atPos ER (recvCell c s b) 1 ∅ 0 ∗ rFull c s b (B s b (peer s c))) -∗ Runs c (kk ⟨⟩) Q)
        -∗ Runs c (.op (.waitDma2 (recvSem s b) (sSlot s b) (rSlot s b) hsrc hdst) kk) Q) := by
  unfold debt mayRecv
  iintro ⟨#HR, #HL, ⟨Hc, Ha⟩, ⟨%W, HO⟩⟩ Hk
  iapply (Rounds.wp_wait_rest_token 𝒱₀ ER (sched B) (c : Thread nD τ) none (κ := K (recvCell c s b)) (k' := N)
    (wpE_waitDma2_eq (src := sSlot s b) (dst := rSlot s b) (hsrc := hsrc) (hdst := hdst) 𝒱₀ (c : Thread nD τ) none Set.univ) (Set.mem_univ _) () (O := owing l) (W := W) (R := 0) (m := 0) (T := ∅)
    ((Nat.zero_add N).trans (expect_recv B c s b).symm)) $$ [Hc HO Ha]
  · isplitr
    · iapply (inv_recv B K c s b) $$ HR
    isplitl [Hc]
    · iexact Hc
    isplitl [HO]
    · iexact HO
    isplitr
    · iapply (mayWait_owing c _ l (by rw [lv_recv]; exact hl)) $$ HL
    iexact Ha
  iintro ⟨HO, Ha, -, Hp⟩
  ihave Hp := (Entails.of_eq (rest_recv B c s b)) $$ Hp
  unfold recvPay rFull
  iapply Hk
  isplitl [HO]
  · iexists _; iexact HO
  isplitl [Ha]
  · iexact Ha
  iexact Hp

/-- The wait for the own transfer of step `s`, with no debts left. -/
theorem run_sent {α : Type} {Q : α → sProp 𝕄} (s : Fin 3) (b : Fin 2)
    {hsrc : (rSlot s b).view.WordExact} {hdst : (sSlot s b).view.WordExact} {kk : PUnit → Prog (TpuEff nD τ sig (Elt F) Λ₀ .tc) α} :
    iprop(recs B K ∗ maySend c s b ∗ debt c [])
      ⊢ iprop(((debt c [] ∗ atPos ER (sendCell c s b) 1 ∅ 0 ∗ (∃ f, sPts c s b f)) -∗ Runs c (kk ⟨⟩) Q)
        -∗ Runs c (.op (.waitDma2 (sendSem s b) (rSlot s b) (sSlot s b) hsrc hdst) kk) Q) := by
  unfold debt maySend
  iintro ⟨#HR, ⟨Hc, Ha⟩, ⟨%W, HO⟩⟩ Hk
  iapply (Rounds.wp_wait_rest_token 𝒱₀ ER (sched B) (c : Thread nD τ) none (κ := K (sendCell c s b)) (k' := N)
    (wpE_waitDma2_eq (src := rSlot s b) (dst := sSlot s b) (hsrc := hsrc) (hdst := hdst) 𝒱₀ (c : Thread nD τ) none Set.univ) (Set.mem_univ _) () (O := owing []) (W := W) (R := 0) (m := 0) (T := ∅)
    ((Nat.zero_add N).trans (expect_send B c s b).symm)) $$ [Hc HO Ha]
  · isplitr
    · iapply (inv_send B K c s b) $$ HR
    isplitl [Hc]
    · iexact Hc
    isplitl [HO]
    · iexact HO
    isplitr
    · rw [show owing [] = 0 from rfl, MayWait_zero]; iempintro
    iexact Ha
  iintro ⟨HO, Ha, -, Hp⟩
  ihave Hp := (Entails.of_eq (rest_send B c s b)) $$ Hp
  unfold sendPay
  iapply Hk
  isplitl [HO]
  · iexists _; iexact HO
  isplitl [Ha]
  · iexact Ha
  iexact Hp

end

end Cert.KernelIdeal.Talk

end
-- ==== Proof.KernelIdeal.Batch.lean ====
/-
  The computation of a device's own shares: the parts of the body that fill the accumulator head by head.
-/
module

public import proofs.«01_k».proof.Proof.KernelIdeal.Talk

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section
variable (M0 : Memref sig .tc .vmem S256x512 .f32) (h0 : M0.IsWhole) (M1 : Memref sig .tc .vmem S512x512 .f32) (h1 : M1.IsWhole)
  (M2 : Memref sig .tc .vmem S512x512 .f32) (h2 : M2.IsWhole) (M3 : Memref sig .tc .vmem S2x128x512 .f32) (h3 : M3.IsWhole)
  (M4 : Memref sig .tc .vmem S2x128x512 .f32) (h4 : M4.IsWhole) (M5 : Memref sig .tc .vmem S256x512 .f32) (h5 : M5.IsWhole)
  (h6 : accM.IsWhole) (h7 : sM.IsWhole) (h8 : rM.IsWhole) (I : Dev nD → Ins F) (c : Dev nD)

/-- The projected queries, and a batch of keys and of values as loaded. -/
abbrev qs : FVec F S256x512 .f32 := k0_pay1 (I c).x (I c).wq
abbrev ks (b : Fin 2) : FVec F S128x512 .f32 := batch b (I c).k
abbrev vs (b : Fin 2) : FVec F S128x512 .f32 := batch b (I c).v

/-- The own shares of device `c` as far as they are stored. -/
abbrev shares (b : Fin 2) (n m : ℕ) (z : Bool) : sProp 𝕄 := filled (fun b => acc I 0 b c) (Stored b n m z) c

variable (K : GSem nD τ sig → ℕ)

theorem run_part2 {β : Type} {Q : β → sProp 𝕄} {kk : _ → Prog (TpuEff nD τ sig (Elt F) Λ₀ .tc) β}
    (v24 v25 v26 : FVec F S128x64 .f32) (e24 : v24 = extractStridedSlice S128x64 ![0, 0] (qs I c) slices_S256x512_o0_0_S128x64)
    (e25 : v25 = extractStridedSlice S128x64 ![0, 0] (ks I c 0) slices_S128x512_o0_0_S128x64)
    (e26 : v26 = extractStridedSlice S128x64 ![0, 0] (vs I c 0) slices_S128x512_o0_0_S128x64) :
    shares I c 0 0 0 false ⊢ iprop((shares I c 0 2 2 false -∗ Runs c (kk ⟨den 0 2 (qs I c) (ks I c 0), num 0 2 (qs I c) (ks I c 0) (vs I c 0)⟩) Q)
      -∗ Runs c (k0_part2 M0 h0 M1 h1 M2 h2 M3 h3 M4 h4 M5 h5 accM h6 sM h7 rM h8 cc0_scratch3 cc0_scratch4 (qs I c) (ks I c 0) (vs I c 0)
          v24 v25 v26 >>= kk) Q) := by
  subst e24 e25 e26
  rw [k0_part2_eq_skeleton]; unfold k0_part2_skel
  simp only [Prog.lift, Prog.bind_op, Prog.bind_ret, Prog.pure_eq_ret]
  iintro H Hk
  iapply (put_head c 0 I 0 0 1 rfl rfl false rfl rfl (by decide) (by decide)) $$ H
  iintro H
  iapply (put_head c 0 I 1 1 2 rfl rfl false rfl rfl (by decide) (by decide)) $$ H
  iintro H
  iapply Hk $$ H

theorem run_part3 {β : Type} {Q : β → sProp 𝕄} {kk : _ → Prog (TpuEff nD τ sig (Elt F) Λ₀ .tc) β} :
    shares I c 0 2 2 false ⊢ iprop((shares I c 0 5 4 false -∗ Runs c (kk (den 0 4 (qs I c) (ks I c 0))) Q)
      -∗ Runs c (k0_part3 M0 h0 M1 h1 M2 h2 M3 h3 M4 h4 M5 h5 accM h6 sM h7 rM h8 cc0_scratch3 cc0_scratch4 (qs I c) (ks I c 0) (vs I c 0)
          (den 0 2 (qs I c) (ks I c 0)) (num 0 2 (qs I c) (ks I c 0) (vs I c 0)) >>= kk) Q) := by
  rw [k0_part3_eq_skeleton]; unfold k0_part3_skel
  simp only [Prog.lift, Prog.bind_op, Prog.bind_ret, Prog.pure_eq_ret]
  iintro H Hk
  iapply (put_head c 0 I 2 2 3 rfl rfl false rfl rfl (by decide) (by decide)) $$ H
  iintro H
  iapply (put_head c 0 I 3 3 4 rfl rfl false rfl rfl (by decide) (by decide)) $$ H
  iintro H
  iapply (put_num c 0 I 4 4 5 4 rfl rfl false rfl (by decide)) $$ H
  iintro H
  iapply (peek c) $$ H
  iintro H
  iapply Hk $$ H

theorem run_part4 {β : Type} {Q : β → sProp 𝕄} {kk : _ → Prog (TpuEff nD τ sig (Elt F) Λ₀ .tc) β} :
    shares I c 0 5 4 false ⊢ iprop((shares I c 0 7 7 false -∗ Runs c (kk ⟨extractStridedSlice S128x64 ![0, 448] (vs I c 0) (slices_head 7),
          probs 0 7 (qs I c) (ks I c 0), multiReduction .add [0] S128 (probs 0 7 (qs I c) (ks I c 0)) 0x00000000#32 reduces_S128x128_S128 (.inl rfl) rfl⟩) Q)
      -∗ Runs c (k0_part4 M0 h0 M1 h1 M2 h2 M3 h3 M4 h4 M5 h5 accM h6 sM h7 rM h8 cc0_scratch3 cc0_scratch4 (qs I c) (ks I c 0) (vs I c 0)
          (den 0 4 (qs I c) (ks I c 0)) >>= kk) Q) := by
  rw [k0_part4_eq_skeleton]; unfold k0_part4_skel
  simp only [Prog.lift, Prog.bind_op, Prog.bind_ret, Prog.pure_eq_ret]
  iintro H Hk
  iapply (set_den c 0 I 4 5 4 5 rfl rfl false rfl (by decide)) $$ H
  iintro H
  iapply (put_head c 0 I 5 5 6 rfl rfl false rfl rfl (by decide) (by decide)) $$ H
  iintro H
  iapply (put_head c 0 I 6 6 7 rfl rfl false rfl rfl (by decide) (by decide)) $$ H
  iintro H
  iapply Hk $$ H

/-- The first batch of shares wholly stored, and both. -/
theorem shares_next : shares I c 0 8 8 true ⊢ shares I c 1 0 0 false :=
  filled_weaken (fun b r h => by
    rcases h with h | ⟨-, h | h | h⟩
    · exact .inr ⟨Fin.ext (by have : b.val < 1 := h; show b.val = 0; omega), by have := r.isLt; simp only [true_and]; omega⟩
    · omega
    · omega
    · exact absurd h.1 (by decide)) c
theorem shares_all : shares I c 1 8 8 true ⊢ (filled (fun b => acc I 0 b c) (fun _ _ => True) c : sProp 𝕄) :=
  filled_weaken (fun b r _ => by
    by_cases h : b.val < 1
    · exact .inl h
    · exact .inr ⟨Fin.ext (by have := b.isLt; show b.val = 1; omega), by have := r.isLt; simp only [true_and]; omega⟩) c

theorem lowered (s : Fin 3) (b : Fin 2) (v : Vec F S1x528x128 .f32)
    (hv : shapeCast S528x128 v shapeCasts_S1x528x128_S528x128 = acc I s.val b c) :
    shapeCast S528x128 (shapeCast S1x1x528x128 (truncf .bf16 (shapeCast S528x128 v shapeCasts_S1x528x128_S528x128) bitsLt_bf16_f32)
      shapeCasts_S528x128_S1x1x528x128) shapeCasts_S1x1x528x128_S528x128 = sent I s b c := by
  rw [shapeCast_shapeCast, hv]; rfl

theorem run_part5 {β : Type} {Q : β → sProp 𝕄} {kk : _ → Prog (TpuEff nD τ sig (Elt F) Λ₀ .tc) β}
    (v2 : BitVec 32) :
    iprop(shares I c 0 7 7 false ∗ (∃ f, sPts c 0 0 f)) ⊢ iprop(((shares I c 0 8 8 true ∗ sFull c 0 0 (sent I 0 0 c)) -∗ Runs c (kk (Scalar.xori v2 1#32)) Q)
      -∗ Runs c (k0_part5 M0 h0 M1 h1 M2 h2 M3 h3 M4 h4 M5 h5 accM h6 sM h7 rM h8 cc0_scratch3 cc0_scratch4 v2 (extractStridedSlice S128x64 ![0, 448] (vs I c 0) (slices_head 7))
          (probs 0 7 (qs I c) (ks I c 0)) (multiReduction .add [0] S128 (probs 0 7 (qs I c) (ks I c 0)) 0x00000000#32 reduces_S128x128_S128 (.inl rfl) rfl)
          >>= kk) Q) := by
  rw [k0_part5_eq_skeleton]; unfold k0_part5_skel
  simp only [Prog.lift, Prog.bind_op, Prog.bind_ret, Prog.pure_eq_ret]
  iintro ⟨H, Hs⟩ Hk
  iapply (put_head c 0 I 7 7 8 rfl rfl false rfl rfl (by decide) (by decide)) $$ H
  iintro H
  iapply (put_zero c 0 I 8 8 rfl (by decide)) $$ H
  iintro H
  iapply (load_whole c 0 fun r => .inr ⟨rfl, by have := r.isLt; simp only [true_and]; omega⟩) $$ H
  iintro %v %hv H
  iapply (put_slot c 0 0 (lowered I c 0 0 v hv)) $$ Hs
  iintro Hs
  iapply Hk $$ [H Hs]
  isplitl [H]
  · iexact H
  iexact Hs

theorem run_part6 {β : Type} {Q : β → sProp 𝕄} {kk : _ → Prog (TpuEff nD τ sig (Elt F) Λ₀ .tc) β}
    (l : List (GSem nD τ sig × ℕ)) :
    iprop(shares I c 1 0 0 false ∗ owns (c : Thread nD τ) M3 fullShare (I c).k ∗ owns (c : Thread nD τ) M4 fullShare (I c).v
        ∗ recs (sent I) K ∗ toks c 0 0 ∗ slotOf c 0 0 ∗ sFull c 0 0 (sent I 0 0 c) ∗ debt c ((recvCell (peer 0 c) 0 0, N) :: l))
      ⊢ iprop(((shares I c 1 2 1 false ∗ owns (c : Thread nD τ) M3 fullShare (I c).k ∗ owns (c : Thread nD τ) M4 fullShare (I c).v
          ∗ cred (tallyAt (sendCell c 0 0) () N) ∗ debt c l) -∗ Runs c (kk ⟨ks I c 1, vs I c 1, den 1 1 (qs I c) (ks I c 1)⟩) Q)
      -∗ Runs c (k0_part6 M0 h0 M1 h1 M2 h2 M3 h3 M4 h4 M5 h5 accM h6 sM h7 rM h8 cc0_scratch3 cc0_scratch4 c (qs I c) >>= kk) Q) := by
  rw [k0_part6_eq_skeleton]; unfold k0_part6_skel
  simp only [Prog.lift, Prog.bind_op, Prog.bind_ret, Prog.pure_eq_ret]
  iintro ⟨H, H3, H4, HR, Ht, Hd, Hs, HO⟩ Hk
  iapply (run_send (sent I) K c 0 0 _ (dev4 c) l) $$ [HR Ht Hd Hs HO]
  · iframe
  iintro ⟨Hc, HO⟩
  iapply (load_owned c M3 fullShare (I c).k) $$ H3
  iintro H3
  iapply (load_owned c M4 fullShare (I c).v) $$ H4
  iintro H4
  iapply (put_head c 1 I 0 0 1 rfl rfl false rfl rfl (by decide) (by decide)) $$ H
  iintro H
  iapply (put_num c 1 I 1 1 2 1 rfl rfl false rfl (by decide)) $$ H
  iintro H
  iapply Hk $$ [H H3 H4 Hc HO]
  iframe

theorem run_part7 {β : Type} {Q : β → sProp 𝕄} {kk : _ → Prog (TpuEff nD τ sig (Elt F) Λ₀ .tc) β} :
    shares I c 1 2 1 false ⊢ iprop((shares I c 1 4 4 false -∗ Runs c (kk ⟨extractStridedSlice S128x64 ![128, 256] (qs I c) (slices_query 1 4),
          extractStridedSlice S128x64 ![0, 256] (ks I c 1) (slices_head 4), extractStridedSlice S128x64 ![0, 256] (vs I c 1) (slices_head 4)⟩) Q)
      -∗ Runs c (k0_part7 M0 h0 M1 h1 M2 h2 M3 h3 M4 h4 M5 h5 accM h6 sM h7 rM h8 cc0_scratch3 cc0_scratch4 (qs I c) (ks I c 1) (vs I c 1)
          (den 1 1 (qs I c) (ks I c 1)) >>= kk) Q) := by
  rw [k0_part7_eq_skeleton]; unfold k0_part7_skel
  simp only [Prog.lift, Prog.bind_op, Prog.bind_ret, Prog.pure_eq_ret]
  iintro H Hk
  iapply (put_den c 1 I 1 2 1 2 rfl rfl false rfl (by decide)) $$ H
  iintro H
  iapply (put_head c 1 I 2 2 3 rfl rfl false rfl rfl (by decide) (by decide)) $$ H
  iintro H
  iapply (put_head c 1 I 3 3 4 rfl rfl false rfl rfl (by decide) (by decide)) $$ H
  iintro H
  iapply Hk $$ H

theorem run_part8 {β : Type} {Q : β → sProp 𝕄} {kk : _ → Prog (TpuEff nD τ sig (Elt F) Λ₀ .tc) β} :
    shares I c 1 4 4 false ⊢ iprop((shares I c 1 6 6 false -∗ Runs c (kk ⟨den 1 6 (qs I c) (ks I c 1), num 1 6 (qs I c) (ks I c 1) (vs I c 1)⟩) Q)
      -∗ Runs c (k0_part8 M0 h0 M1 h1 M2 h2 M3 h3 M4 h4 M5 h5 accM h6 sM h7 rM h8 cc0_scratch3 cc0_scratch4 (qs I c) (ks I c 1) (vs I c 1)
          (extractStridedSlice S128x64 ![128, 256] (qs I c) (slices_query 1 4)) (extractStridedSlice S128x64 ![0, 256] (ks I c 1) (slices_head 4))
          (extractStridedSlice S128x64 ![0, 256] (vs I c 1) (slices_head 4)) >>= kk) Q) := by
  rw [k0_part8_eq_skeleton]; unfold k0_part8_skel
  simp only [Prog.lift, Prog.bind_op, Prog.bind_ret, Prog.pure_eq_ret]
  iintro H Hk
  iapply (put_head c 1 I 4 4 5 rfl rfl false rfl rfl (by decide) (by decide)) $$ H
  iintro H
  iapply (put_head c 1 I 5 5 6 rfl rfl false rfl rfl (by decide) (by decide)) $$ H
  iintro H
  iapply Hk $$ H

theorem run_part9 {β : Type} {Q : β → sProp 𝕄} {kk : _ → Prog (TpuEff nD τ sig (Elt F) Λ₀ .tc) β} :
    iprop(shares I c 1 6 6 false ∗ (∃ f, sPts c 0 1 f)) ⊢ iprop(((filled (fun b => acc I 0 b c) (fun _ _ => True) c ∗ sFull c 0 1 (sent I 0 1 c)) -∗ Runs c (kk ⟨⟩) Q)
      -∗ Runs c (k0_part9 M0 h0 M1 h1 M2 h2 M3 h3 M4 h4 M5 h5 accM h6 sM h7 rM h8 cc0_scratch3 cc0_scratch4 (qs I c) (ks I c 1) (vs I c 1)
          (den 1 6 (qs I c) (ks I c 1)) (num 1 6 (qs I c) (ks I c 1) (vs I c 1)) >>= kk) Q) := by
  rw [k0_part9_eq_skeleton]; unfold k0_part9_skel
  simp only [Prog.lift, Prog.bind_op, Prog.bind_ret, Prog.pure_eq_ret]
  iintro ⟨H, Hs⟩ Hk
  iapply (put_head c 1 I 6 6 7 rfl rfl false rfl rfl (by decide) (by decide)) $$ H
  iintro H
  iapply (put_head c 1 I 7 7 8 rfl rfl false rfl rfl (by decide) (by decide)) $$ H
  iintro H
  iapply (put_zero c 1 I 8 8 rfl (by decide)) $$ H
  iintro H
  ihave H := (shares_all I c) $$ H
  iapply (load_whole c 1 fun r => trivial) $$ H
  iintro %v %hv H
  iapply (put_slot c 0 1 (lowered I c 0 1 v hv)) $$ Hs
  iintro Hs
  iapply Hk $$ [H Hs]
  isplitl [H]
  · iexact H
  iexact Hs

end

end Cert.KernelIdeal.Talk

end
-- ==== Proof.KernelIdeal.Exchange.lean ====
/-
  The exchange: the parts of the body that greet the partners, send and receive, add what arrives, and write the result.
-/
module

public import proofs.«01_k».proof.Proof.KernelIdeal.Batch

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section
variable (M0 : Memref sig .tc .vmem S256x512 .f32) (h0 : M0.IsWhole) (M1 : Memref sig .tc .vmem S512x512 .f32) (h1 : M1.IsWhole)
  (M2 : Memref sig .tc .vmem S512x512 .f32) (h2 : M2.IsWhole) (M3 : Memref sig .tc .vmem S2x128x512 .f32) (h3 : M3.IsWhole)
  (M4 : Memref sig .tc .vmem S2x128x512 .f32) (h4 : M4.IsWhole) (M5 : Memref sig .tc .vmem S256x512 .f32) (h5 : M5.IsWhole)
  (h6 : accM.IsWhole) (h7 : sM.IsWhole) (h8 : rM.IsWhole) (I : Dev nD → Ins F) (K : GSem nD τ sig → ℕ) (c : Dev nD)

/-! ## The accumulator in the exchange -/

/-- Batch `b` has seen `n b` steps of the exchange. -/
abbrev accs (n : Fin 2 → ℕ) : sProp 𝕄 := filled (fun b => acc I (n b) b c) (fun _ _ => True) c

theorem added (s : Fin 3) (b : Fin 2) (v : Vec F S1x528x128 .f32) (w : Vec F S1x1x528x128 .bf16)
    (hv : shapeCast S528x128 v shapeCasts_S1x528x128_S528x128 = acc I s.val b c)
    (hw : shapeCast S528x128 w shapeCasts_S1x1x528x128_S528x128 = sent I s b (peer s c)) :
    shapeCast S528x128 (shapeCast S1x528x128 (addf (shapeCast S528x128 v shapeCasts_S1x528x128_S528x128)
      (extf .f32 (shapeCast S528x128 w shapeCasts_S1x1x528x128_S528x128) bitsLt_bf16_f32)) shapeCasts_S528x128_S1x528x128)
      shapeCasts_S1x528x128_S528x128 = acc I (s.val + 1) b c := by
  rw [shapeCast_shapeCast, hv, hw, acc_succ]; rfl

theorem put_added {α : Type} {Q : α → sProp 𝕄} (s : Fin 3) (b : Fin 2) (n n' : Fin 2 → ℕ) (hn' : n' b = s.val + 1) (ho : ∀ b', b' ≠ b → n' b' = n b')
    {w : Vec F S1x528x128 .f32} (hw : shapeCast S528x128 w shapeCasts_S1x528x128_S528x128 = acc I (s.val + 1) b c)
    {hl : accM.view.LoadsAt (rowsR b 0 528 (Nat.le_refl _)).toLoadRect}
    {hx : (accM.access (rowsR b 0 528 (Nat.le_refl _))).Stores Finset.univ} {hm} {k : PUnit → Prog (TpuEff nD τ sig (Elt F) Λ₀ .tc) α} :
    accs I c n ⊢ iprop((accs I c n' -∗ Runs c (k ⟨⟩) Q)
      -∗ Runs c (.op (.load accM (rowsR b 0 528 (Nat.le_refl _)).toLoadRect hl)
          fun _ => .op (.store accM (rowsR b 0 528 (Nat.le_refl _)) w Finset.univ hx hm) k) Q) :=
  put_whole c b (fun _ _ _ _ => trivial) (fun b' hb => by show acc I (n' b') b' c = acc I (n b') b' c; rw [ho b' hb])
    (by rw [hw]; show acc I (s.val + 1) b c = acc I (n' b) b c; rw [hn'])

/-- What arrived is added. -/
theorem add_recv {α : Type} {Q : α → sProp 𝕄} (s : Fin 3) (b : Fin 2) (n n' : Fin 2 → ℕ) (hn : n b = s.val) (hn' : n' b = s.val + 1)
    (ho : ∀ b', b' ≠ b → n' b' = n b') {w : Vec F S1x528x128 .f32 → Vec F S1x1x528x128 .bf16 → Vec F S1x528x128 .f32}
    (hw : w = fun v u => shapeCast S1x528x128 (addf (shapeCast S528x128 v shapeCasts_S1x528x128_S528x128)
      (extf .f32 (shapeCast S528x128 u shapeCasts_S1x1x528x128_S528x128) bitsLt_bf16_f32)) shapeCasts_S528x128_S1x528x128)
    {hl hl' : accM.view.LoadsAt (rowsR b 0 528 (Nat.le_refl _)).toLoadRect} {hr : rM.view.LoadsAt (slotR s b).toLoadRect}
    {hx : (accM.access (rowsR b 0 528 (Nat.le_refl _))).Stores Finset.univ} {hm} {k : PUnit → Prog (TpuEff nD τ sig (Elt F) Λ₀ .tc) α} :
    iprop(accs I c n ∗ rFull c s b (sent I s b (peer s c))) ⊢ iprop(((accs I c n' ∗ rFull c s b (sent I s b (peer s c))) -∗ Runs c (k ⟨⟩) Q)
      -∗ Runs c (.op (.load accM (rowsR b 0 528 (Nat.le_refl _)).toLoadRect hl) fun v =>
          .op (.load rM (slotR s b).toLoadRect hr) fun u =>
          .op (.load accM (rowsR b 0 528 (Nat.le_refl _)).toLoadRect hl') fun _ =>
          .op (.store accM (rowsR b 0 528 (Nat.le_refl _)) (w v u) Finset.univ hx hm) k) Q) := by
  subst hw
  iintro ⟨H, Hr⟩ Hk
  iapply (load_whole c b fun _ => trivial) $$ H
  iintro %v %hv H
  iapply (load_recv c s b) $$ Hr
  iintro %u %hu Hr
  iapply (put_added I c s b n n' hn' ho (added I c s b v u (hv.trans (by rw [hn])) hu)) $$ H
  iintro H
  iapply Hk
  isplitl [H]
  · iexact H
  iexact Hr

/-- A batch is rounded into a send slot. -/
theorem lower_into {α : Type} {Q : α → sProp 𝕄} (s : Fin 3) (b : Fin 2) (n : Fin 2 → ℕ) (hn : n b = s.val)
    {w : Vec F S1x528x128 .f32 → Vec F S1x1x528x128 .bf16}
    (hw : w = fun v => shapeCast S1x1x528x128 (truncf .bf16 (shapeCast S528x128 v shapeCasts_S1x528x128_S528x128) bitsLt_bf16_f32)
      shapeCasts_S528x128_S1x1x528x128)
    {hl : accM.view.LoadsAt (rowsR b 0 528 (Nat.le_refl _)).toLoadRect} {hr : sM.view.LoadsAt (slotR s b).toLoadRect}
    {hx : (sM.access (slotR s b)).Stores Finset.univ} {hm} {k : PUnit → Prog (TpuEff nD τ sig (Elt F) Λ₀ .tc) α} :
    iprop(accs I c n ∗ (∃ f, sPts c s b f)) ⊢ iprop(((accs I c n ∗ sFull c s b (sent I s b c)) -∗ Runs c (k ⟨⟩) Q)
      -∗ Runs c (.op (.load accM (rowsR b 0 528 (Nat.le_refl _)).toLoadRect hl) fun v =>
          .op (.load sM (slotR s b).toLoadRect hr) fun _ => .op (.store sM (slotR s b) (w v) Finset.univ hx hm) k) Q) := by
  subst hw
  iintro ⟨H, Hs⟩ Hk
  iapply (load_whole c b fun _ => trivial) $$ H
  iintro %v %hv H
  iapply (put_slot c s b (lowered I c s b v (hv.trans (by rw [hn])))) $$ Hs
  iintro Hs
  iapply Hk
  isplitl [H]
  · iexact H
  iexact Hs

/-! ## The result -/

/-- The reciprocals of the sums of exponentials. -/
def recip (a : FVec F S528x128 .f32) : FVec F S8x1x128 .f32 :=
  shapeCast S8x1x128 (divf (broadcast S8x128 (Scalar.ofBits .f32 0x3F800000#32)) (lower a)) shapeCasts_S8x128_S8x1x128

theorem upper_of (a : FVec F S528x128 .f32) (v : Vec F S1x512x128 .f32)
    (hv : ∀ (i : Fin 512) (l : Fin 128), v (ix3 (0 : Fin 1) i l) = a (ix2 (⟨0 + i.val, by omega⟩ : Fin 528) l)) :
    shapeCast S512x128 v shapeCasts_S1x512x128_S512x128 = upper a := by
  funext y
  rw [eq_ix2 y]
  refine (shapeCast_1ab_ab_apply (a := 512) (b := 128) v _ _ _).trans ((hv _ _).trans ?_)
  show _ = a _
  congr 2
  exact Fin.ext (Nat.zero_add _)
theorem lower_of (a : FVec F S528x128 .f32) (v : Vec F S1x8x128 .f32)
    (hv : ∀ (i : Fin 8) (l : Fin 128), v (ix3 (0 : Fin 1) i l) = a (ix2 (⟨512 + i.val, by omega⟩ : Fin 528) l)) :
    shapeCast S8x128 v shapeCasts_S1x8x128_S8x128 = lower a := by
  funext y
  rw [eq_ix2 y]
  exact (shapeCast_1ab_ab_apply (a := 8) (b := 128) v _ _ _).trans (hv _ _)

/-- The result is written on the rows below `n`. -/
def written (n : ℕ) : sProp 𝕄 :=
  iprop(∃ X, ⌜∀ (r : Fin 256) (l : Fin 512), r.val < n → X (ix2 r l) = result I c (ix2 r l)⌝ ∗ owns (c : Thread nD τ) M5 fullShare X)

theorem out_inb (b : Fin 2) : ∀ a, (![128 * b.val, 0] : Fin 2 → ℕ) a + S128x512.size a ≤ S256x512.size a := by revert b; decide
abbrev outR (b : Fin 2) : Rect S256x512 := Rect.unit (s := S256x512) ![128 * b.val, 0] S128x512.size (out_inb b)

theorem put_out {α : Type} {Q : α → sProp 𝕄} (b : Fin 2) (n n' : ℕ) (hn : n = 128 * b.val) (hn' : n' = 128 * b.val + 128) {w : Vec F S128x512 .f32}
    (hw : w = project (acc I 3 b c) (I c).wo) {hl : M5.view.LoadsAt (outR b).toLoadRect} {hx : (M5.access (outR b)).Stores Finset.univ} {hm}
    {k : PUnit → Prog (TpuEff nD τ sig (Elt F) Λ₀ .tc) α} :
    written M5 I c n ⊢ iprop((written M5 I c n' -∗ Runs c (k ⟨⟩) Q)
      -∗ Runs c (.op (.load M5 (outR b).toLoadRect hl) fun _ => .op (.store M5 (outR b) w Finset.univ hx hm) k) Q) := by
  subst hw hn hn'
  unfold written
  iintro ⟨%X, %hX, H⟩ Hk
  iapply (put_owned c M5 X (outR b)) $$ H
  iintro %X' %hX' H
  iapply Hk
  iexists X'
  isplitr
  · ipureintro
    intro r l hr
    by_cases h : r.val < 128 * b.val
    · rw [hX'.2 (ix2 r l) (fun hm => by
        obtain ⟨y, -, hy⟩ := Finset.mem_map.mp hm
        have e : 128 * b.val + 1 * (y 0).val = r.val := congrArg (fun z : S256x512.Idx => (z 0).val) hy
        omega)]
      exact hX r l h
    · have e : ix2 r l = (outR b).emb (ix2 (⟨r.val - 128 * b.val, by omega⟩ : Fin 128) l) := by
        funext a
        match a with
        | ⟨0, _⟩ => exact Fin.ext (by show r.val = 128 * b.val + 1 * (r.val - 128 * b.val); omega)
        | ⟨1, _⟩ => exact Fin.ext (by show l.val = 0 + 1 * l.val; omega)
      rw [e, hX'.1, ← e]
      have hb : (⟨r.val / 128, by omega⟩ : Fin 2) = b := Fin.ext (by show r.val / 128 = b.val; omega)
      have hi : (⟨r.val % 128, Nat.mod_lt _ (by decide)⟩ : Fin 128) = ⟨r.val - 128 * b.val, by omega⟩ := Fin.ext (by
        show r.val % 128 = r.val - 128 * b.val; omega)
      show _ = project (acc I 3 ⟨r.val / 128, _⟩ c) (I c).wo (ix2 (⟨r.val % 128, _⟩ : Fin 128) l)
      rw [hb, hi]
  iexact H

/-- All of it. -/
theorem written_all : written M5 I c 256 ⊢ (owns (c : Thread nD τ) M5 fullShare (result I c) : sProp 𝕄) := by
  unfold written
  iintro ⟨%X, %hX, H⟩
  have e : X = result I c := funext fun y => by rw [eq_ix2 y]; exact hX _ _ (y 0).isLt
  subst e
  iexact H
theorem written_none (X : S256x512.Idx → Elt F .f32) : (owns (c : Thread nD τ) M5 fullShare X : sProp 𝕄) ⊢ written M5 I c 0 := by
  unfold written
  iintro H
  iexists X
  isplitr
  · ipureintro; exact fun r l h => absurd h (Nat.not_lt_zero _)
  iexact H

/-! ## The parts -/

/-- What a device hands over with its signal to the partner of step `k`. -/
def hand (k : Fin 3) : sProp 𝕄 :=
  iprop(dutyTok ER (barCell (peer k c)) 0 k ∗ (∃ f, rPts c k 0 f) ∗ (∃ f, rPts c k 1 f) ∗ reached ER (recvCell c k 0) 0 ∗ reached ER (recvCell c k 1) 0)

theorem run_part1 {β : Type} {Q : β → sProp 𝕄} {kk : _ → Prog (TpuEff nD τ sig (Elt F) Λ₀ .tc) β}
    (l : List (GSem nD τ sig × ℕ)) (hl : ∀ p ∈ l, p.1.1.2 = .tc ∧ 1 < lv p.1 ()) :
    iprop(owns (c : Thread nD τ) M0 fullShare (I c).x ∗ owns (c : Thread nD τ) M1 fullShare (I c).wq ∗ owns (c : Thread nD τ) M3 fullShare (I c).k ∗ owns (c : Thread nD τ) M4 fullShare (I c).v
        ∗ recs (sent I) K ∗ levAts L lv ∗ cred (tallyAt (barCell c) () 3) ∗ atPos ER (barCell c) 0 ∅ 0 ∗ hand c 0 ∗ hand c 1 ∗ hand c 2
        ∗ debt c ((barCell (peer 0 c), 1) :: (barCell (peer 1 c), 1) :: (barCell (peer 2 c), 1) :: l))
      ⊢ iprop(((owns (c : Thread nD τ) M0 fullShare (I c).x ∗ owns (c : Thread nD τ) M1 fullShare (I c).wq ∗ owns (c : Thread nD τ) M3 fullShare (I c).k ∗ owns (c : Thread nD τ) M4 fullShare (I c).v
          ∗ debt c l ∗ atPos ER (barCell c) 1 ∅ 0 ∗ (slotOf c 0 0 ∗ slotOf c 0 1) ∗ (slotOf c 1 0 ∗ slotOf c 1 1) ∗ (slotOf c 2 0 ∗ slotOf c 2 1))
        -∗ Runs c (kk ⟨c, Scalar.remsi (Scalar.divsi (Dev.word c) 1#32) 8#32, qs I c, ks I c 0, vs I c 0,
            extractStridedSlice S128x64 ![0, 0] (qs I c) slices_S256x512_o0_0_S128x64,
            extractStridedSlice S128x64 ![0, 0] (ks I c 0) slices_S128x512_o0_0_S128x64,
            extractStridedSlice S128x64 ![0, 0] (vs I c 0) slices_S128x512_o0_0_S128x64⟩) Q)
      -∗ Runs c (k0_part1 M0 h0 M1 h1 M2 h2 M3 h3 M4 h4 M5 h5 accM h6 sM h7 rM h8 cc0_scratch3 cc0_scratch4 >>= kk) Q) := by
  rw [k0_part1_eq_skeleton]; unfold k0_part1_skel hand
  simp only [Prog.lift, Prog.bind_op, Prog.bind_ret, Prog.pure_eq_ret, semSignalWord, semWaitWord, wp_deviceId]
  iintro ⟨H0, H1, H3, H4, #HR, #HL, Hc, Ha, ⟨Ht0, Hf0, Hg0, #Hr0, #Hs0⟩, ⟨Ht1, Hf1, Hg1, #Hr1, #Hs1⟩, ⟨Ht2, Hf2, Hg2, #Hr2, #Hs2⟩, HO⟩ Hk
  iapply (load_as c M0 fullShare (I c).x _ (I c).x (whole_idx (sh := S256x512) _ _ _ (by decide))) $$ H0
  iintro H0
  iapply (load_as c M1 fullShare (I c).wq _ (I c).wq (whole_idx (sh := S512x512) _ _ _ (by decide))) $$ H1
  iintro H1
  iapply (run_signal (sent I) K c 0 _ (dev1 c) _) $$ [HO Ht0 Hf0 Hg0]
  · iframe
    iframe HR Hr0 Hs0
  iintro HO
  iapply (run_signal (sent I) K c 1 _ (dev2 c) _) $$ [HO Ht1 Hf1 Hg1]
  · iframe
    iframe HR Hr1 Hs1
  iintro HO
  iapply (run_signal (sent I) K c 2 _ (dev3 c) _) $$ [HO Ht2 Hf2 Hg2]
  · iframe
    iframe HR Hr2 Hs2
  iintro HO
  iapply (run_barrier (sent I) K c l hl) $$ [HO Hc Ha]
  · iframe
    iframe HR HL
  iintro ⟨HO, Ha, Hd0, Hd1, Hd2⟩
  iapply (load_owned c M3 fullShare (I c).k) $$ H3
  iintro H3
  iapply (load_owned c M4 fullShare (I c).v) $$ H4
  iintro H4
  iapply Hk $$ [H0 H1 H3 H4 HO Ha Hd0 Hd1 Hd2]
  iframe

theorem run_part10 {β : Type} {Q : β → sProp 𝕄} {kk : _ → Prog (TpuEff nD τ sig (Elt F) Λ₀ .tc) β}
    (l : List (GSem nD τ sig × ℕ)) (hl : ∀ p ∈ l, p.1.1.2 = .tc ∧ 2 + (0 : Fin 3).val < lv p.1 ()) (v2 v146 : BitVec 32) :
    iprop(accs I c ![0, 0] ∗ recs (sent I) K ∗ levAts L lv ∗ toks c 0 1 ∗ slotOf c 0 1 ∗ sFull c 0 1 (sent I 0 1 c) ∗ mayRecv c 0 0 ∗ debt c ((recvCell (peer 0 c) 0 1, N) :: l))
      ⊢ iprop((∀ u : Vec F S1x1x528x128 .bf16, ⌜shapeCast S528x128 u shapeCasts_S1x1x528x128_S528x128 = sent I 0 0 (peer 0 c)⌝
          -∗ (accs I c ![0, 0] ∗ rFull c 0 0 (sent I 0 0 (peer 0 c)) ∗ cred (tallyAt (sendCell c 0 1) () N) ∗ atPos ER (recvCell c 0 0) 1 ∅ 0 ∗ debt c l)
          -∗ Runs c (kk ⟨Scalar.xori v2 1#32, acc I 0 0 c, u⟩) Q)
      -∗ Runs c (k0_part10 M0 h0 M1 h1 M2 h2 M3 h3 M4 h4 M5 h5 accM h6 sM h7 rM h8 cc0_scratch3 cc0_scratch4 c v2 v146 >>= kk) Q) := by
  rw [k0_part10_eq_skeleton]; unfold k0_part10_skel
  simp only [Prog.lift, Prog.bind_op, Prog.bind_ret, Prog.pure_eq_ret]
  iintro ⟨H, #HR, #HL, Ht, Hd, Hs, Hw, HO⟩ Hk
  iapply (run_send (sent I) K c 0 1 _ (dev5 c) l) $$ [Ht Hd Hs HO]
  · iframe
    iframe HR
  iintro ⟨Hc, HO⟩
  iapply (run_recv (sent I) K c 0 0 l hl) $$ [Hw HO]
  · iframe
    iframe HR HL
  iintro ⟨HO, Ha, Hr⟩
  iapply (load_whole c 0 fun _ => trivial) $$ H
  iintro %v %hv H
  iapply (load_recv c 0 0) $$ Hr
  iintro %u %hu Hr
  have e : k0_pay72 v = acc I 0 0 c := hv
  rw [e]
  iapply Hk $$ %u [] [H Hr Hc Ha HO]
  · ipureintro; exact hu
  iframe

theorem run_part11 {β : Type} {Q : β → sProp 𝕄} {kk : _ → Prog (TpuEff nD τ sig (Elt F) Λ₀ .tc) β}
    (l : List (GSem nD τ sig × ℕ)) (v2 : BitVec 32) (u : Vec F S1x1x528x128 .bf16)
    (hu : shapeCast S528x128 u shapeCasts_S1x1x528x128_S528x128 = sent I 0 0 (peer 0 c)) :
    iprop(accs I c ![0, 0] ∗ recs (sent I) K ∗ toks c 1 0 ∗ slotOf c 1 0 ∗ (∃ f, sPts c 1 0 f) ∗ debt c ((recvCell (peer 1 c) 1 0, N) :: l))
      ⊢ iprop(((accs I c ![1, 0] ∗ cred (tallyAt (sendCell c 1 0) () N) ∗ debt c l) -∗ Runs c (kk ⟨Scalar.xori v2 3#32, 1#32⟩) Q)
      -∗ Runs c (k0_part11 M0 h0 M1 h1 M2 h2 M3 h3 M4 h4 M5 h5 accM h6 sM h7 rM h8 cc0_scratch3 cc0_scratch4 c v2 (acc I 0 0 c) u >>= kk) Q) := by
  rw [k0_part11_eq_skeleton]; unfold k0_part11_skel
  simp only [Prog.lift, Prog.bind_op, Prog.bind_ret, Prog.pure_eq_ret]
  iintro ⟨H, #HR, Ht, Hd, Hs, HO⟩ Hk
  iapply (put_added I c 0 0 ![0, 0] ![1, 0] rfl (by decide) (w := k0_pay73 (acc I 0 0 c) u) (by
    unfold k0_pay73
    rw [shapeCast_shapeCast, hu, acc_succ]; rfl)) $$ H
  iintro H
  iapply (lower_into I c 1 0 ![1, 0] rfl rfl) $$ [H Hs]
  · iframe
  iintro ⟨H, Hs⟩
  iapply (run_send (sent I) K c 1 0 _ (dev6 c) l) $$ [Ht Hd Hs HO]
  · iframe
    iframe HR
  iintro ⟨Hc, HO⟩
  iapply Hk $$ [H Hc HO]
  iframe

theorem run_part12 {β : Type} {Q : β → sProp 𝕄} {kk : _ → Prog (TpuEff nD τ sig (Elt F) Λ₀ .tc) β}
    (l : List (GSem nD τ sig × ℕ)) (hl : ∀ p ∈ l, p.1.1.2 = .tc ∧ 2 + (0 : Fin 3).val < lv p.1 ()) (v2 v283 w : BitVec 32) :
    iprop(accs I c ![1, 0] ∗ recs (sent I) K ∗ levAts L lv ∗ mayRecv c 0 1 ∗ (∃ f, sPts c 1 1 f) ∗ debt c l)
      ⊢ iprop(((accs I c ![1, 1] ∗ rFull c 0 1 (sent I 0 1 (peer 0 c)) ∗ sFull c 1 1 (sent I 1 1 c) ∗ atPos ER (recvCell c 0 1) 1 ∅ 0 ∗ debt c l) -∗ Runs c (kk ⟨Scalar.xori v2 3#32, Scalar.muli (Scalar.xori v2 3#32) 1#32⟩) Q)
      -∗ Runs c (k0_part12 M0 h0 M1 h1 M2 h2 M3 h3 M4 h4 M5 h5 accM h6 sM h7 rM h8 cc0_scratch3 cc0_scratch4 v2 v283 w >>= kk) Q) := by
  rw [k0_part12_eq_skeleton]; unfold k0_part12_skel
  simp only [Prog.lift, Prog.bind_op, Prog.bind_ret, Prog.pure_eq_ret]
  iintro ⟨H, #HR, #HL, Hw, Hs, HO⟩ Hk
  iapply (run_recv (sent I) K c 0 1 l hl) $$ [Hw HO]
  · iframe
    iframe HR HL
  iintro ⟨HO, Ha, Hr⟩
  iapply (add_recv I c 0 1 ![1, 0] ![1, 1] rfl rfl (by decide) rfl) $$ [H Hr]
  · iframe
  iintro ⟨H, Hr⟩
  iapply (lower_into I c 1 1 ![1, 1] rfl rfl) $$ [H Hs]
  · iframe
  iintro ⟨H, Hs⟩
  iapply Hk $$ [H Hr Hs Ha HO]
  iframe

theorem run_part13 {β : Type} {Q : β → sProp 𝕄} {kk : _ → Prog (TpuEff nD τ sig (Elt F) Λ₀ .tc) β}
    (l : List (GSem nD τ sig × ℕ)) (hl : ∀ p ∈ l, p.1.1.2 = .tc ∧ 2 + (1 : Fin 3).val < lv p.1 ()) (v317 v352 : BitVec 32) :
    iprop(accs I c ![1, 1] ∗ recs (sent I) K ∗ levAts L lv ∗ toks c 1 1 ∗ slotOf c 1 1 ∗ sFull c 1 1 (sent I 1 1 c) ∗ mayRecv c 1 0 ∗ debt c ((recvCell (peer 1 c) 1 1, N) :: l))
      ⊢ iprop(((accs I c ![2, 1] ∗ rFull c 1 0 (sent I 1 0 (peer 1 c)) ∗ cred (tallyAt (sendCell c 1 1) () N) ∗ atPos ER (recvCell c 1 0) 1 ∅ 0 ∗ debt c l) -∗ Runs c (kk ⟨⟩) Q)
      -∗ Runs c (k0_part13 M0 h0 M1 h1 M2 h2 M3 h3 M4 h4 M5 h5 accM h6 sM h7 rM h8 cc0_scratch3 cc0_scratch4 c v317 v352 >>= kk) Q) := by
  rw [k0_part13_eq_skeleton]; unfold k0_part13_skel
  simp only [Prog.lift, Prog.bind_op, Prog.bind_ret, Prog.pure_eq_ret]
  iintro ⟨H, #HR, #HL, Ht, Hd, Hs, Hw, HO⟩ Hk
  iapply (run_send (sent I) K c 1 1 _ (dev7 c) l) $$ [Ht Hd Hs HO]
  · iframe
    iframe HR
  iintro ⟨Hc, HO⟩
  iapply (run_recv (sent I) K c 1 0 l hl) $$ [Hw HO]
  · iframe
    iframe HR HL
  iintro ⟨HO, Ha, Hr⟩
  iapply (add_recv I c 1 0 ![1, 1] ![2, 1] rfl rfl (by decide) rfl) $$ [H Hr]
  · iframe
  iintro ⟨H, Hr⟩
  iapply Hk $$ [H Hr Hc Ha HO]
  iframe

theorem run_part14 {β : Type} {Q : β → sProp 𝕄} {kk : _ → Prog (TpuEff nD τ sig (Elt F) Λ₀ .tc) β}
    (l : List (GSem nD τ sig × ℕ)) (v2 v351 : BitVec 32) :
    iprop(accs I c ![2, 1] ∗ recs (sent I) K ∗ toks c 2 0 ∗ slotOf c 2 0 ∗ (∃ f, sPts c 2 0 f) ∗ debt c ((recvCell (peer 2 c) 2 0, N) :: l))
      ⊢ iprop(((accs I c ![2, 1] ∗ cred (tallyAt (sendCell c 2 0) () N) ∗ debt c l) -∗ Runs c (kk (Scalar.xori v2 4#32)) Q)
      -∗ Runs c (k0_part14 M0 h0 M1 h1 M2 h2 M3 h3 M4 h4 M5 h5 accM h6 sM h7 rM h8 cc0_scratch3 cc0_scratch4 c v2 v351 >>= kk) Q) := by
  rw [k0_part14_eq_skeleton]; unfold k0_part14_skel
  simp only [Prog.lift, Prog.bind_op, Prog.bind_ret, Prog.pure_eq_ret]
  iintro ⟨H, #HR, Ht, Hd, Hs, HO⟩ Hk
  iapply (lower_into I c 2 0 ![2, 1] rfl rfl) $$ [H Hs]
  · iframe
  iintro ⟨H, Hs⟩
  iapply (run_send (sent I) K c 2 0 _ (dev8 c) l) $$ [Ht Hd Hs HO]
  · iframe
    iframe HR
  iintro ⟨Hc, HO⟩
  iapply Hk $$ [H Hc HO]
  iframe

theorem run_part15 {β : Type} {Q : β → sProp 𝕄} {kk : _ → Prog (TpuEff nD τ sig (Elt F) Λ₀ .tc) β}
    (l : List (GSem nD τ sig × ℕ)) (hl : ∀ p ∈ l, p.1.1.2 = .tc ∧ 2 + (1 : Fin 3).val < lv p.1 ()) (v2 : BitVec 32) :
    iprop(accs I c ![2, 1] ∗ recs (sent I) K ∗ levAts L lv ∗ mayRecv c 1 1 ∗ (∃ f, sPts c 2 1 f) ∗ debt c l)
      ⊢ iprop(((accs I c ![2, 2] ∗ rFull c 1 1 (sent I 1 1 (peer 1 c)) ∗ sFull c 2 1 (sent I 2 1 c) ∗ atPos ER (recvCell c 1 1) 1 ∅ 0 ∗ debt c l) -∗ Runs c (kk (Scalar.xori v2 4#32)) Q)
      -∗ Runs c (k0_part15 M0 h0 M1 h1 M2 h2 M3 h3 M4 h4 M5 h5 accM h6 sM h7 rM h8 cc0_scratch3 cc0_scratch4 v2 >>= kk) Q) := by
  rw [k0_part15_eq_skeleton]; unfold k0_part15_skel
  simp only [Prog.lift, Prog.bind_op, Prog.bind_ret, Prog.pure_eq_ret]
  iintro ⟨H, #HR, #HL, Hw, Hs, HO⟩ Hk
  iapply (run_recv (sent I) K c 1 1 l hl) $$ [Hw HO]
  · iframe
    iframe HR HL
  iintro ⟨HO, Ha, Hr⟩
  iapply (add_recv I c 1 1 ![2, 1] ![2, 2] rfl rfl (by decide) rfl) $$ [H Hr]
  · iframe
  iintro ⟨H, Hr⟩
  iapply (lower_into I c 2 1 ![2, 2] rfl rfl) $$ [H Hs]
  · iframe
  iintro ⟨H, Hs⟩
  iapply Hk $$ [H Hr Hs Ha HO]
  iframe

theorem run_part16 {β : Type} {Q : β → sProp 𝕄} {kk : _ → Prog (TpuEff nD τ sig (Elt F) Λ₀ .tc) β}
    (l : List (GSem nD τ sig × ℕ)) (hl : ∀ p ∈ l, p.1.1.2 = .tc ∧ 2 + (2 : Fin 3).val < lv p.1 ()) (v385 : BitVec 32) :
    iprop(accs I c ![2, 2] ∗ recs (sent I) K ∗ levAts L lv ∗ toks c 2 1 ∗ slotOf c 2 1 ∗ sFull c 2 1 (sent I 2 1 c) ∗ mayRecv c 2 0 ∗ debt c ((recvCell (peer 2 c) 2 1, N) :: l))
      ⊢ iprop(((accs I c ![3, 2] ∗ rFull c 2 0 (sent I 2 0 (peer 2 c)) ∗ cred (tallyAt (sendCell c 2 1) () N) ∗ atPos ER (recvCell c 2 0) 1 ∅ 0 ∗ debt c l) -∗ Runs c (kk ⟨upper (acc I 3 0 c), recip (acc I 3 0 c)⟩) Q)
      -∗ Runs c (k0_part16 M0 h0 M1 h1 M2 h2 M3 h3 M4 h4 M5 h5 accM h6 sM h7 rM h8 cc0_scratch3 cc0_scratch4 c v385 >>= kk) Q) := by
  rw [k0_part16_eq_skeleton]; unfold k0_part16_skel
  simp only [Prog.lift, Prog.bind_op, Prog.bind_ret, Prog.pure_eq_ret]
  iintro ⟨H, #HR, #HL, Ht, Hd, Hs, Hw, HO⟩ Hk
  iapply (run_send (sent I) K c 2 1 _ (dev9 c) l) $$ [Ht Hd Hs HO]
  · iframe
    iframe HR
  iintro ⟨Hc, HO⟩
  iapply (run_recv (sent I) K c 2 0 l hl) $$ [Hw HO]
  · iframe
    iframe HR HL
  iintro ⟨HO, Ha, Hr⟩
  iapply (add_recv I c 2 0 ![2, 2] ![3, 2] rfl rfl (by decide) rfl) $$ [H Hr]
  · iframe
  iintro ⟨H, Hr⟩
  iapply (load_rows c 0 512 8 (by decide) fun _ _ _ => trivial) $$ H
  iintro %v %hv H
  iapply (load_rows c 0 0 512 (by decide) fun _ _ _ => trivial) $$ H
  iintro %u %hu H
  have e : k0_pay82 u = upper (acc I 3 0 c) := upper_of _ u hu
  have e' : k0_pay83 v = recip (acc I 3 0 c) := by
    unfold recip; rw [← lower_of (acc I 3 0 c) v hv]; rfl
  rw [e, e']
  iapply Hk $$ [H Hr Hc Ha HO]
  iframe

theorem run_part17 {β : Type} {Q : β → sProp 𝕄} {kk : _ → Prog (TpuEff nD τ sig (Elt F) Λ₀ .tc) β}
    (l : List (GSem nD τ sig × ℕ)) (hl : ∀ p ∈ l, p.1.1.2 = .tc ∧ 2 + (2 : Fin 3).val < lv p.1 ()) (v419 : BitVec 32) :
    iprop(accs I c ![3, 2] ∗ owns (c : Thread nD τ) M2 fullShare (I c).wo ∗ written M5 I c 0 ∗ recs (sent I) K ∗ levAts L lv ∗ mayRecv c 2 1 ∗ debt c l)
      ⊢ iprop(((accs I c ![3, 3] ∗ owns (c : Thread nD τ) M2 fullShare (I c).wo ∗ written M5 I c 128 ∗ rFull c 2 1 (sent I 2 1 (peer 2 c)) ∗ atPos ER (recvCell c 2 1) 1 ∅ 0 ∗ debt c l) -∗ Runs c (kk ⟨⟩) Q)
      -∗ Runs c (k0_part17 M0 h0 M1 h1 M2 h2 M3 h3 M4 h4 M5 h5 accM h6 sM h7 rM h8 cc0_scratch3 cc0_scratch4 v419 (upper (acc I 3 0 c)) (recip (acc I 3 0 c)) >>= kk) Q) := by
  rw [k0_part17_eq_skeleton]; unfold k0_part17_skel
  simp only [Prog.lift, Prog.bind_op, Prog.bind_ret, Prog.pure_eq_ret]
  iintro ⟨H, H2, H5, #HR, #HL, Hw, HO⟩ Hk
  iapply (load_as c M2 fullShare (I c).wo _ (I c).wo (whole_idx (sh := S512x512) _ _ _ (by decide))) $$ H2
  iintro H2
  iapply (put_out M5 I c 0 0 128 rfl rfl rfl) $$ H5
  iintro H5
  iapply (run_recv (sent I) K c 2 1 l hl) $$ [Hw HO]
  · iframe
    iframe HR HL
  iintro ⟨HO, Ha, Hr⟩
  iapply (add_recv I c 2 1 ![3, 2] ![3, 3] rfl rfl (by decide) rfl) $$ [H Hr]
  · iframe
  iintro ⟨H, Hr⟩
  iapply Hk $$ [H H2 H5 Hr Ha HO]
  iframe

theorem run_part18 {β : Type} {Q : β → sProp 𝕄} {kk : _ → Prog (TpuEff nD τ sig (Elt F) Λ₀ .tc) β} :
    iprop(accs I c ![3, 3] ∗ owns (c : Thread nD τ) M2 fullShare (I c).wo ∗ written M5 I c 128 ∗ recs (sent I) K ∗ maySend c 0 0 ∗ debt c [])
      ⊢ iprop(((accs I c ![3, 3] ∗ owns (c : Thread nD τ) M2 fullShare (I c).wo ∗ written M5 I c 256 ∗ (∃ f, sPts c 0 0 f) ∗ atPos ER (sendCell c 0 0) 1 ∅ 0 ∗ debt c []) -∗ Runs c (kk ⟨⟩) Q)
      -∗ Runs c (k0_part18 M0 h0 M1 h1 M2 h2 M3 h3 M4 h4 M5 h5 accM h6 sM h7 rM h8 cc0_scratch3 cc0_scratch4 >>= kk) Q) := by
  rw [k0_part18_eq_skeleton]; unfold k0_part18_skel
  simp only [Prog.lift, Prog.bind_op, Prog.bind_ret, Prog.pure_eq_ret]
  iintro ⟨H, H2, H5, #HR, Hw, HO⟩ Hk
  iapply (load_rows c 1 512 8 (by decide) fun _ _ _ => trivial) $$ H
  iintro %v %hv H
  iapply (load_rows c 1 0 512 (by decide) fun _ _ _ => trivial) $$ H
  iintro %u %hu H
  iapply (load_as c M2 fullShare (I c).wo _ (I c).wo (whole_idx (sh := S512x512) _ _ _ (by decide))) $$ H2
  iintro H2
  iapply (put_out M5 I c 1 128 256 rfl rfl (w := k0_pay86 v u (I c).wo) (by
    unfold project; rw [← upper_of (acc I 3 1 c) u hu, ← lower_of (acc I 3 1 c) v hv]; rfl)) $$ H5
  iintro H5
  iapply (run_sent (sent I) K c 0 0) $$ [Hw HO]
  · iframe
    iframe HR
  iintro ⟨HO, Ha, Hs⟩
  iapply Hk $$ [H H2 H5 Hs Ha HO]
  iframe

theorem run_part19 {β : Type} {Q : β → sProp 𝕄} {kk : _ → Prog (TpuEff nD τ sig (Elt F) Λ₀ .tc) β} :
    iprop(recs (sent I) K ∗ maySend c 0 1 ∗ maySend c 1 0 ∗ maySend c 1 1 ∗ debt c [])
      ⊢ iprop(((((∃ f, sPts c 0 1 f) ∗ atPos ER (sendCell c 0 1) 1 ∅ 0) ∗ ((∃ f, sPts c 1 0 f) ∗ atPos ER (sendCell c 1 0) 1 ∅ 0) ∗ ((∃ f, sPts c 1 1 f) ∗ atPos ER (sendCell c 1 1) 1 ∅ 0) ∗ debt c []) -∗ Runs c (kk ⟨⟩) Q)
      -∗ Runs c (k0_part19 M0 h0 M1 h1 M2 h2 M3 h3 M4 h4 M5 h5 accM h6 sM h7 rM h8 cc0_scratch3 cc0_scratch4 >>= kk) Q) := by
  rw [k0_part19_eq_skeleton]; unfold k0_part19_skel
  simp only [Prog.lift, Prog.bind_op, Prog.bind_ret, Prog.pure_eq_ret]
  iintro ⟨#HR, Hw01, Hw10, Hw11, HO⟩ Hk
  iapply (run_sent (sent I) K c 0 1) $$ [Hw01 HO]
  · iframe
    iframe HR
  iintro ⟨HO, Ha01, Hs01⟩
  iapply (run_sent (sent I) K c 1 0) $$ [Hw10 HO]
  · iframe
    iframe HR
  iintro ⟨HO, Ha10, Hs10⟩
  iapply (run_sent (sent I) K c 1 1) $$ [Hw11 HO]
  · iframe
    iframe HR
  iintro ⟨HO, Ha11, Hs11⟩
  iapply Hk $$ [Hs01 Ha01 Hs10 Ha10 Hs11 Ha11 HO]
  iframe

end

end Cert.KernelIdeal.Talk

end
-- ==== Proof.KernelIdeal.Body.lean ====
/-
  The whole body of the kernel on one device.
-/
module

public import proofs.«01_k».proof.Proof.KernelIdeal.Exchange

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The send slots, unread. -/
def sendSlots (c : Dev nD) : sProp 𝕄 :=
  iprop((∃ f, sPts c 0 0 f) ∗ (∃ f, sPts c 0 1 f) ∗ (∃ f, sPts c 1 0 f) ∗ (∃ f, sPts c 1 1 f) ∗ (∃ f, sPts c 2 0 f) ∗ (∃ f, sPts c 2 1 f))
/-- The receive slots with what the partners sent. -/
def recvSlots (I : Dev nD → Ins F) (c : Dev nD) : sProp 𝕄 :=
  iprop(rFull c 0 0 (sent I 0 0 (peer 0 c)) ∗ rFull c 0 1 (sent I 0 1 (peer 0 c)) ∗ rFull c 1 0 (sent I 1 0 (peer 1 c)) ∗ rFull c 1 1 (sent I 1 1 (peer 1 c)) ∗ rFull c 2 0 (sent I 2 0 (peer 2 c)) ∗ rFull c 2 1 (sent I 2 1 (peer 2 c)))
/-- The rights with which a device sends, receives, and waits for its own transfers. -/
def sendRights (c : Dev nD) : sProp 𝕄 := iprop(toks c 0 0 ∗ toks c 0 1 ∗ toks c 1 0 ∗ toks c 1 1 ∗ toks c 2 0 ∗ toks c 2 1)
def recvRights (c : Dev nD) : sProp 𝕄 := iprop(mayRecv c 0 0 ∗ mayRecv c 0 1 ∗ mayRecv c 1 0 ∗ mayRecv c 1 1 ∗ mayRecv c 2 0 ∗ mayRecv c 2 1)
def sentRights (c : Dev nD) : sProp 𝕄 := iprop(atPos ER (sendCell c 0 0) 0 ∅ 0 ∗ atPos ER (sendCell c 0 1) 0 ∅ 0 ∗ atPos ER (sendCell c 1 0) 0 ∅ 0 ∗ atPos ER (sendCell c 1 1) 0 ∅ 0 ∗ atPos ER (sendCell c 2 0) 0 ∅ 0 ∗ atPos ER (sendCell c 2 1) 0 ∅ 0)
/-- The cells after their round. -/
def spent (c : Dev nD) : sProp 𝕄 :=
  iprop(atPos ER (barCell c) 1 ∅ 0
    ∗ (atPos ER (recvCell c 0 0) 1 ∅ 0 ∗ atPos ER (recvCell c 0 1) 1 ∅ 0 ∗ atPos ER (recvCell c 1 0) 1 ∅ 0 ∗ atPos ER (recvCell c 1 1) 1 ∅ 0 ∗ atPos ER (recvCell c 2 0) 1 ∅ 0 ∗ atPos ER (recvCell c 2 1) 1 ∅ 0)
    ∗ (atPos ER (sendCell c 0 0) 1 ∅ 0 ∗ atPos ER (sendCell c 0 1) 1 ∅ 0 ∗ atPos ER (sendCell c 1 0) 1 ∅ 0 ∗ atPos ER (sendCell c 1 1) 1 ∅ 0 ∗ atPos ER (sendCell c 2 0) 1 ∅ 0 ∗ atPos ER (sendCell c 2 1) 1 ∅ 0))

theorem above_bar (c : Dev nD) : ∀ p ∈ (debts c).drop 3, p.1.1.2 = .tc ∧ 1 < lv p.1 () := by
  intro p hp
  simp only [debts, List.drop, List.mem_cons, List.not_mem_nil, or_false] at hp
  rcases hp with rfl | rfl | rfl | rfl | rfl | rfl <;> exact ⟨rfl, by rw [lv_recv]; decide⟩
theorem above_0 (c : Dev nD) (n : ℕ) (hn : 5 ≤ n) : ∀ p ∈ (debts c).drop n, p.1.1.2 = .tc ∧ 2 + (0 : Fin 3).val < lv p.1 () := by
  intro p hp
  have hp : p ∈ (debts c).drop 5 := List.mem_of_mem_drop (i := n - 5) (by rw [List.drop_drop]; rwa [show 5 + (n - 5) = n by omega])
  simp only [debts, List.drop, List.mem_cons, List.not_mem_nil, or_false] at hp
  rcases hp with rfl | rfl | rfl | rfl <;> exact ⟨rfl, by rw [lv_recv]; decide⟩
theorem above_1 (c : Dev nD) (n : ℕ) (hn : 7 ≤ n) : ∀ p ∈ (debts c).drop n, p.1.1.2 = .tc ∧ 2 + (1 : Fin 3).val < lv p.1 () := by
  intro p hp
  have hp : p ∈ (debts c).drop 7 := List.mem_of_mem_drop (i := n - 7) (by rw [List.drop_drop]; rwa [show 7 + (n - 7) = n by omega])
  simp only [debts, List.drop, List.mem_cons, List.not_mem_nil, or_false] at hp
  rcases hp with rfl | rfl <;> exact ⟨rfl, by rw [lv_recv]; decide⟩

theorem accs_start (I : Dev nD → Ins F) (c : Dev nD) : filled (fun b => acc I 0 b c) (fun _ _ => True) c ⊢ (accs I c ![0, 0] : sProp 𝕄) :=
  Entails.of_eq (congrArg (fun G => filled G _ c) (funext fun b => by fin_cases b <;> rfl))

section
variable (M0 : Memref sig .tc .vmem S256x512 .f32) (h0 : M0.IsWhole) (M1 : Memref sig .tc .vmem S512x512 .f32) (h1 : M1.IsWhole)
  (M2 : Memref sig .tc .vmem S512x512 .f32) (h2 : M2.IsWhole) (M3 : Memref sig .tc .vmem S2x128x512 .f32) (h3 : M3.IsWhole)
  (M4 : Memref sig .tc .vmem S2x128x512 .f32) (h4 : M4.IsWhole) (M5 : Memref sig .tc .vmem S256x512 .f32) (h5 : M5.IsWhole)
  (h6 : accM.IsWhole) (h7 : sM.IsWhole) (h8 : rM.IsWhole) (I : Dev nD → Ins F) (K : GSem nD τ sig → ℕ) (c : Dev nD)

/-- The operands' windows. -/
def windows : sProp 𝕄 :=
  iprop(owns (c : Thread nD τ) M0 fullShare (I c).x ∗ owns (c : Thread nD τ) M1 fullShare (I c).wq ∗ owns (c : Thread nD τ) M2 fullShare (I c).wo ∗ owns (c : Thread nD τ) M3 fullShare (I c).k ∗ owns (c : Thread nD τ) M4 fullShare (I c).v)

theorem run_body {Q : PUnit → sProp 𝕄} :
    iprop(windows M0 M1 M2 M3 M4 I c ∗ written M5 I c 0 ∗ shares I c 0 0 0 false ∗ sendSlots c ∗ recs (sent I) K ∗ levAts L lv
        ∗ cred (tallyAt (barCell c) () 3) ∗ atPos ER (barCell c) 0 ∅ 0 ∗ (hand c 0 ∗ hand c 1 ∗ hand c 2)
        ∗ sendRights c ∗ recvRights c ∗ sentRights c ∗ debt c (debts c))
      ⊢ iprop(((windows M0 M1 M2 M3 M4 I c ∗ written M5 I c 256 ∗ accs I c ![3, 3] ∗ sendSlots c ∗ recvSlots I c ∗ spent c ∗ debt c []) -∗ |={Set.univ}=> Q ⟨⟩)
      -∗ Runs c (cc0_body M0 h0 M1 h1 M2 h2 M3 h3 M4 h4 M5 h5 accM h6 sM h7 rM h8 cc0_scratch3 cc0_scratch4) Q) := by
  unfold windows sendSlots sendRights recvRights sentRights cc0_body
  iintro ⟨⟨H0, H1, H2, H3, H4⟩, H5, H, ⟨S00, S01, S10, S11, S20, S21⟩, #HR, #HL, Hc, Ha, ⟨G0, G1, G2⟩,
    ⟨T00, T01, T10, T11, T20, T21⟩, ⟨W00, W01, W10, W11, W20, W21⟩, ⟨P00, P01, P10, P11, P20, P21⟩, HO⟩ Hk
  iapply (run_part1 M0 h0 M1 h1 M2 h2 M3 h3 M4 h4 M5 h5 h6 h7 h8 I K c ((debts c).drop 3) (above_bar c)) $$ [H0 H1 H3 H4 Hc Ha G0 G1 G2 HO]
  · iframe H0 H1 H3 H4 Hc Ha G0 G1 G2 HR HL
    iexact HO
  iintro ⟨H0, H1, H3, H4, HO, Ab, ⟨D00, D01⟩, ⟨D10, D11⟩, ⟨D20, D21⟩⟩
  iapply (run_part2 M0 h0 M1 h1 M2 h2 M3 h3 M4 h4 M5 h5 h6 h7 h8 I c _ _ _ rfl rfl rfl) $$ H
  iintro H
  iapply (run_part3 M0 h0 M1 h1 M2 h2 M3 h3 M4 h4 M5 h5 h6 h7 h8 I c) $$ H
  iintro H
  iapply (run_part4 M0 h0 M1 h1 M2 h2 M3 h3 M4 h4 M5 h5 h6 h7 h8 I c) $$ H
  iintro H
  iapply (run_part5 M0 h0 M1 h1 M2 h2 M3 h3 M4 h4 M5 h5 h6 h7 h8 I c _) $$ [H S00]
  · iframe
  iintro ⟨H, S00⟩
  ihave H := (shares_next I c) $$ H
  iapply (run_part6 M0 h0 M1 h1 M2 h2 M3 h3 M4 h4 M5 h5 h6 h7 h8 I c K ((debts c).drop 4)) $$ [H H3 H4 T00 D00 S00 HO]
  · iframe H H3 H4 T00 D00 S00 HR
    iexact HO
  iintro ⟨H, H3, H4, C00, HO⟩
  iapply (run_part7 M0 h0 M1 h1 M2 h2 M3 h3 M4 h4 M5 h5 h6 h7 h8 I c) $$ H
  iintro H
  iapply (run_part8 M0 h0 M1 h1 M2 h2 M3 h3 M4 h4 M5 h5 h6 h7 h8 I c) $$ H
  iintro H
  iapply (run_part9 M0 h0 M1 h1 M2 h2 M3 h3 M4 h4 M5 h5 h6 h7 h8 I c) $$ [H S01]
  · iframe
  iintro ⟨H, S01⟩
  ihave H := (accs_start I c) $$ H
  iapply (run_part10 M0 h0 M1 h1 M2 h2 M3 h3 M4 h4 M5 h5 h6 h7 h8 I K c ((debts c).drop 5) (above_0 c 5 (by decide)) _ _) $$ [H T01 D01 S01 W00 HO]
  · isplitl [H]
    · iexact H
    iframe T01 D01 S01 W00 HR HL
    iexact HO
  iintro %u %hu ⟨H, R00, C01, A00, HO⟩
  iapply (run_part11 M0 h0 M1 h1 M2 h2 M3 h3 M4 h4 M5 h5 h6 h7 h8 I K c ((debts c).drop 6) _ u hu) $$ [H T10 D10 S10 HO]
  · iframe H T10 D10 S10 HR
    iexact HO
  iintro ⟨H, C10, HO⟩
  iapply (run_part12 M0 h0 M1 h1 M2 h2 M3 h3 M4 h4 M5 h5 h6 h7 h8 I K c ((debts c).drop 6) (above_0 c 6 (by decide)) _ _ _) $$ [H W01 S11 HO]
  · iframe H W01 S11 HR HL
    iexact HO
  iintro ⟨H, R01, S11, A01, HO⟩
  iapply (run_part13 M0 h0 M1 h1 M2 h2 M3 h3 M4 h4 M5 h5 h6 h7 h8 I K c ((debts c).drop 7) (above_1 c 7 (by decide)) _ _) $$ [H T11 D11 S11 W10 HO]
  · iframe H T11 D11 S11 W10 HR HL
    iexact HO
  iintro ⟨H, R10, C11, A10, HO⟩
  iapply (run_part14 M0 h0 M1 h1 M2 h2 M3 h3 M4 h4 M5 h5 h6 h7 h8 I K c ((debts c).drop 8) _ _) $$ [H T20 D20 S20 HO]
  · iframe H T20 D20 S20 HR
    iexact HO
  iintro ⟨H, C20, HO⟩
  iapply (run_part15 M0 h0 M1 h1 M2 h2 M3 h3 M4 h4 M5 h5 h6 h7 h8 I K c ((debts c).drop 8) (above_1 c 8 (by decide)) _) $$ [H W11 S21 HO]
  · iframe H W11 S21 HR HL
    iexact HO
  iintro ⟨H, R11, S21, A11, HO⟩
  iapply (run_part16 M0 h0 M1 h1 M2 h2 M3 h3 M4 h4 M5 h5 h6 h7 h8 I K c [] (fun _ h => absurd h List.not_mem_nil) _) $$ [H T21 D21 S21 W20 HO]
  · iframe H T21 D21 S21 W20 HR HL
    iexact HO
  iintro ⟨H, R20, C21, A20, HO⟩
  iapply (run_part17 M0 h0 M1 h1 M2 h2 M3 h3 M4 h4 M5 h5 h6 h7 h8 I K c [] (fun _ h => absurd h List.not_mem_nil) _) $$ [H H2 H5 W21 HO]
  · iframe H H2 H5 W21 HR HL HO
  iintro ⟨H, H2, H5, R21, A21, HO⟩
  iapply (run_part18 M0 h0 M1 h1 M2 h2 M3 h3 M4 h4 M5 h5 h6 h7 h8 I K c) $$ [H H2 H5 C00 P00 HO]
  · unfold maySend
    iframe H H2 H5 C00 P00 HR HO
  iintro ⟨H, H2, H5, S00, B00, HO⟩
  iapply (run_part19 M0 h0 M1 h1 M2 h2 M3 h3 M4 h4 M5 h5 h6 h7 h8 I K c) $$ [C01 P01 C10 P10 C11 P11 HO]
  · unfold maySend
    iframe C01 P01 C10 P10 C11 P11 HR HO
  iintro ⟨⟨S01, B01⟩, ⟨S10, B10⟩, ⟨S11, B11⟩, HO⟩
  simp only [Prog.lift, Prog.bind_op, Prog.bind_ret, Prog.pure_eq_ret]
  iapply (run_sent (sent I) K c 2 0) $$ [C20 P20 HO]
  · unfold maySend
    iframe C20 P20 HR HO
  iintro ⟨HO, B20, S20⟩
  iapply (run_sent (sent I) K c 2 1) $$ [C21 P21 HO]
  · unfold maySend
    iframe C21 P21 HR HO
  iintro ⟨HO, B21, S21⟩
  unfold Runs
  rw [wp_ret]
  iapply Hk
  unfold recvSlots spent
  iframe

end

end Cert.KernelIdeal.Talk

end
-- ==== Proof.KernelIdeal.Slots.lean ====
/-
  The scratch buffers of the transfers, slot by slot.
-/
module

public import proofs.«01_k».proof.Proof.KernelIdeal.Body
public import Idealize.ShloMosaic.Lib.Ring

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev Slot : Type := Fin 3 × Fin 2

theorem six (Φ : Slot → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ
theorem three (Φ : Fin 3 → sProp 𝕄) : bigSep Finset.univ Φ = iprop(Φ 0 ∗ Φ 1 ∗ Φ 2) :=
  bigSep_univ_eq_bigSepL [(0 : Fin 3), 1, 2] (by decide) (by decide) Φ

/-! ## A buffer is its six slots -/

abbrev slotSet (p : Slot) : Finset S3x2x528x128.Idx := (slotR p.1 p.2).set

theorem mem_slot (p : Slot) (i : S3x2x528x128.Idx) : i ∈ slotSet p ↔ (i 0).val = p.1.val ∧ (i 1).val = p.2.val := by
  have h2 := (i 2).isLt
  have h3 := (i 3).isLt
  rw [Rect.mem_set_unit]
  constructor
  · intro h
    have h0 := h 0
    have h1 := h 1
    simp only [S1x1x528x128, Matrix.cons_val_zero, Matrix.cons_val_one] at h0 h1
    omega
  · rintro ⟨h0, h1⟩ a
    fin_cases a
    · show p.1.val ≤ (i 0).val ∧ (i 0).val < p.1.val + 1; omega
    · show p.2.val ≤ (i 1).val ∧ (i 1).val < p.2.val + 1; omega
    · exact ⟨Nat.zero_le _, (Nat.zero_add 528).symm ▸ h2⟩
    · exact ⟨Nat.zero_le _, (Nat.zero_add 128).symm ▸ h3⟩

theorem slots_disjoint (p q : Slot) (h : p ≠ q) : Disjoint (slotSet p) (slotSet q) :=
  Finset.disjoint_left.mpr fun i hp hq => h (by
    rw [mem_slot] at hp hq
    exact Prod.ext (Fin.ext (hp.1.symm.trans hq.1)) (Fin.ext (hp.2.symm.trans hq.2)))
theorem slots_cover : Finset.univ.biUnion slotSet = Finset.univ :=
  Finset.eq_univ_of_forall fun i => Finset.mem_biUnion.mpr ⟨(i 0, i 1), Finset.mem_univ _, (mem_slot _ i).mpr ⟨rfl, rfl⟩⟩

section
variable (c : Dev nD)

theorem send_part (p : Slot) (f : Buf (Elt F) ((c : Thread nD τ).loc cc0_scratch1)) :
    (((c : Thread nD τ).loc cc0_scratch1) ↦[slotSet p]{fullShare} f : sProp 𝕄) = sPts c p.1 p.2 f := by
  unfold sPts; rw [sSlot_set]
theorem send_split (f : Buf (Elt F) ((c : Thread nD τ).loc cc0_scratch1)) :
    (((c : Thread nD τ).loc cc0_scratch1) ↦{fullShare} f : sProp 𝕄) ⊢ bigSep Finset.univ fun p : Slot => iprop(∃ f, sPts c p.1 p.2 f) := by
  rw [Ring.pointsTo_blocks (ℓ := (c : Thread nD τ).loc cc0_scratch1) slotSet slots_disjoint slots_cover f]
  exact bigSep_mono fun p _ => (Entails.of_eq (send_part c p f)).trans (exists_intro (Φ := fun f => sPts c p.1 p.2 f) f)
theorem send_join (f : Buf (Elt F) ((c : Thread nD τ).loc cc0_scratch1)) : (bigSep Finset.univ fun p : Slot => iprop(∃ f, sPts c p.1 p.2 f) : sProp 𝕄)
    ⊢ iprop(∃ f : Buf (Elt F) ((c : Thread nD τ).loc cc0_scratch1), ((c : Thread nD τ).loc cc0_scratch1) ↦{fullShare} f) := by
  simp only [← send_part]
  exact Ring.pointsTo_blocks_join_exists (ℓ := (c : Thread nD τ).loc cc0_scratch1) slotSet slots_disjoint slots_cover f
theorem recv_part (p : Slot) (f : Buf (Elt F) ((c : Thread nD τ).loc cc0_scratch2)) :
    (((c : Thread nD τ).loc cc0_scratch2) ↦[slotSet p]{fullShare} f : sProp 𝕄) = rPts c p.1 p.2 f := by
  unfold rPts; rw [rSlot_set]
theorem recv_split (f : Buf (Elt F) ((c : Thread nD τ).loc cc0_scratch2)) :
    (((c : Thread nD τ).loc cc0_scratch2) ↦{fullShare} f : sProp 𝕄) ⊢ bigSep Finset.univ fun p : Slot => iprop(∃ f, rPts c p.1 p.2 f) := by
  rw [Ring.pointsTo_blocks (ℓ := (c : Thread nD τ).loc cc0_scratch2) slotSet slots_disjoint slots_cover f]
  exact bigSep_mono fun p _ => (Entails.of_eq (recv_part c p f)).trans (exists_intro (Φ := fun f => rPts c p.1 p.2 f) f)
theorem recv_join (f : Buf (Elt F) ((c : Thread nD τ).loc cc0_scratch2)) : (bigSep Finset.univ fun p : Slot => iprop(∃ f, rPts c p.1 p.2 f) : sProp 𝕄)
    ⊢ iprop(∃ f : Buf (Elt F) ((c : Thread nD τ).loc cc0_scratch2), ((c : Thread nD τ).loc cc0_scratch2) ↦{fullShare} f) := by
  simp only [← recv_part]
  exact Ring.pointsTo_blocks_join_exists (ℓ := (c : Thread nD τ).loc cc0_scratch2) slotSet slots_disjoint slots_cover f

end

end Cert.KernelIdeal.Talk

end
-- ==== Proof.KernelIdeal.State.lean ====
/-
  What the kernel starts from and what it leaves, on every device.
-/
module

public import proofs.«01_k».proof.Proof.KernelIdeal.Slots
public import proofs.«01_k».proof.Proof.Gen.KernelIdeal.Frame
public import proofs.«01_k».proof.Proof.Gen.KernelIdeal.Points
public import Idealize.ShloMosaic.Lib.Pipeline.ValueKit

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The buffers around the kernel -/

/-- What the kernel of device `c` reads. -/
def I (c : Dev nD) : Ins F where
  x := V m c main_v1
  wq := V m c main_arg1
  wo := V m c main_arg4
  k := V m c main_v2
  v := V m c main_v3

/-- The buffers after the kernel: the result written. -/
def W' (c : Dev nD) : Valuation τ sig (Elt F) := Function.update (V0 m c) (Proc.devRef .tc main_v4) (result (I m) c)
/-- At the end. -/
def Vend (c : Dev nD) : Valuation τ sig (Elt F) := StableHlo.after hostOps1 (W' m c)

/-! ## The protocol's part, before the kernel, inside it, and after it -/

/-- The semaphores of the transfers. -/
def ownDma : Fin 2 → Slot → DmaSem sig
  | 0, p => sendSem p.1 p.2
  | 1, p => recvSem p.1 p.2
def osem (k : Fin 2 × Slot) : SemLoc sig := .dma (ownDma k.1 k.2)
abbrev ownCell (c : Dev nD) (k : Fin 2 × Slot) : GSem nD τ sig := ((c : Thread nD τ), osem k)

theorem inv_own (B : Sent F) (K : GSem nD τ sig → ℕ) (c : Dev nD) (k : Fin 2 × Slot) :
    recs B K ⊢ cellInv ER (sched B) (K (ownCell c k)) (ownCell c k) := by
  obtain ⟨k, s, b⟩ := k
  fin_cases k
  · exact inv_send B K c s b
  · exact inv_recv B K c s b

/-- The barrier's part: the credit and the position of the own cell, the rights to signal the three partners. -/
def bars (c : Dev nD) : sProp 𝕄 :=
  iprop(cred (tallyAt (barCell c) () 3) ∗ atPos ER (barCell c) 0 ∅ 0 ∗ bigSep Finset.univ fun k : Fin 3 => dutyTok ER (barCell (peer k c)) 0 k)
/-- The transfers' part, slot by slot. -/
def trade (c : Dev nD) (p : Slot) : sProp 𝕄 :=
  iprop(dutyTok ER (sendCell c p.1 p.2) 0 0 ∗ dutyTok ER (recvCell (peer p.1 c) p.1 p.2) 0 0 ∗ cred (tallyAt (recvCell c p.1 p.2) () N))
def Tk (c : Dev nD) : sProp 𝕄 :=
  iprop((∃ K, recs (sent (I m)) K) ∗ bars c ∗ (bigSep Finset.univ fun p : Slot => trade c p) ∗ bigSep Finset.univ fun k : Fin 2 × Slot => openTok ER (ownCell c k))
def Xk (c : Dev nD) : sProp 𝕄 :=
  iprop((∃ K, recs (sent (I m)) K) ∗ levAts L lv ∗ bars c ∗ (bigSep Finset.univ fun p : Slot => trade c p)
    ∗ bigSep Finset.univ fun k : Fin 2 × Slot => iprop(atPos ER (ownCell c k) 0 ∅ 0 ∗ reached ER (ownCell c k) 0))
def Yk (c : Dev nD) : sProp 𝕄 := semVal (barCell c) 0

/-- Opening the transfers' cells. -/
theorem open_cells (c : Dev nD) : iprop(Tk m c ∗ Pipeline.ownSems0 osem c ∗ levAts L lv) ⊢ (|={Set.univ}=> Xk m c : sProp 𝕄) := by
  unfold Tk Xk Pipeline.ownSems0
  iintro ⟨⟨⟨%K, #HR⟩, Hb, Ht, Ho⟩, Hs, #HL⟩
  ihave Hos := (Entails.of_eq (bigSep_sep' Finset.univ (fun k : Fin 2 × Slot => (openTok ER (ownCell c k) : sProp 𝕄)) (fun k : Fin 2 × Slot => (semVal (ownCell c k) 0 : sProp 𝕄))).symm) $$ [Ho Hs]
  · isplitl [Ho] <;> iassumption
  ihave Hu := (bigSep_with_persistent (S := Finset.univ) (R := recs (sent (I m)) K)
    (Φ := fun k : Fin 2 × Slot => (iprop(openTok ER (ownCell c k) ∗ semVal (ownCell c k) 0) : sProp 𝕄))
    (Ψ := fun k : Fin 2 × Slot => (iprop(|={Set.univ}=> (atPos ER (ownCell c k) 0 ∅ 0 ∗ reached ER (ownCell c k) 0)) : sProp 𝕄))
    fun k _ => by
      iintro ⟨#HR, Ho, Hs⟩
      iapply (Rounds.cell_open ER (sched (sent (I m))) (g := ownCell c k) (Set.mem_univ (K (ownCell c k))))
      isplitr
      · iapply (inv_own (sent (I m)) K c k) $$ HR
      isplitl [Ho] <;> iassumption) $$ [Hos]
  · isplitr
    · iexact HR
    iexact Hos
  ihave Hu := (bigSep_fupd Finset.univ (fun k : Fin 2 × Slot => (iprop(atPos ER (ownCell c k) 0 ∅ 0 ∗ reached ER (ownCell c k) 0) : sProp 𝕄))) $$ Hu
  imod Hu with Hu
  imodintro
  isplitr
  · iexists K; iexact HR
  isplitr
  · iexact HL
  isplitl [Hb]
  · iexact Hb
  isplitl [Ht] <;> iassumption

/-- The own cells, listed. -/
theorem own_list (Φ : Fin 2 × Slot → sProp 𝕄) : bigSep Finset.univ Φ
    = iprop((Φ (0, 0, 0) ∗ Φ (0, 0, 1) ∗ Φ (0, 1, 0) ∗ Φ (0, 1, 1) ∗ Φ (0, 2, 0) ∗ Φ (0, 2, 1))
      ∗ (Φ (1, 0, 0) ∗ Φ (1, 0, 1) ∗ Φ (1, 1, 0) ∗ Φ (1, 1, 1) ∗ Φ (1, 2, 0) ∗ Φ (1, 2, 1))) := by
  rw [bigSep_univ_prod, BI.bigSep_fin_two, six, six]
  rfl

theorem own_cells (Ψ : GSem nD τ sig → sProp 𝕄) (c : Dev nD) : bigSep Finset.univ (fun k : Fin 2 × Slot => Ψ (ownCell c k))
    = iprop((Ψ (sendCell c 0 0) ∗ Ψ (sendCell c 0 1) ∗ Ψ (sendCell c 1 0) ∗ Ψ (sendCell c 1 1) ∗ Ψ (sendCell c 2 0) ∗ Ψ (sendCell c 2 1))
      ∗ (Ψ (recvCell c 0 0) ∗ Ψ (recvCell c 0 1) ∗ Ψ (recvCell c 1 0) ∗ Ψ (recvCell c 1 1) ∗ Ψ (recvCell c 2 0) ∗ Ψ (recvCell c 2 1))) :=
  own_list _

/-- Closing every cell of the device after its round. -/
theorem close_cells (B : Sent F) (K : GSem nD τ sig → ℕ) (c : Dev nD) :
    iprop(recs B K ∗ spent c) ⊢ (|={Set.univ}=> (Yk c ∗ Pipeline.ownSems0 osem c) : sProp 𝕄) := by
  have e : (spent c : sProp 𝕄) ⊢ iprop(atPos ER (barCell c) 1 ∅ 0 ∗ bigSep Finset.univ fun k : Fin 2 × Slot => atPos ER (ownCell c k) 1 ∅ 0) := by
    rw [own_cells (fun g => atPos ER g 1 ∅ 0)]
    unfold spent
    iintro ⟨Hb, Hr, Hs⟩
    isplitl [Hb]
    · iexact Hb
    isplitl [Hs] <;> iassumption
  unfold Yk Pipeline.ownSems0
  iintro ⟨#HR, Hs⟩
  ihave Hs := e $$ Hs
  icases Hs with ⟨Hb, Hs⟩
  imod (Rounds.cell_close ER (sched B) (Set.mem_univ (K (barCell c))) id (duties_later B (barCell c))) $$ [Hb] with Hb
  · isplitr
    · iapply (inv_bar B K c) $$ HR
    iexact Hb
  ihave Hu := (bigSep_with_persistent (S := Finset.univ) (R := recs B K)
    (Φ := fun k : Fin 2 × Slot => (atPos ER (ownCell c k) 1 ∅ 0 : sProp 𝕄))
    (Ψ := fun k : Fin 2 × Slot => (iprop(|={Set.univ}=> semVal (ownCell c k) 0) : sProp 𝕄))
    fun k _ => by
      iintro ⟨#HR, Ha⟩
      iapply (Rounds.cell_close ER (sched B) (Set.mem_univ (K (ownCell c k))) id (duties_later B (ownCell c k)))
      isplitr
      · iapply (inv_own B K c k) $$ HR
      iexact Ha) $$ [Hs]
  · isplitr
    · iexact HR
    iexact Hs
  ihave Hu := (bigSep_fupd Finset.univ (fun k : Fin 2 × Slot => (semVal (ownCell c k) 0 : sProp 𝕄))) $$ Hu
  imod Hu with Hu
  imodintro
  isplitl [Hb] <;> iassumption

/-! ## The kernel's proof data -/

/-- The three scratch buffers, unread. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def dat (c : Dev nD) : Pipeline.Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result (I m) c
  Φ t := if t.val = 0 then iprop(Xk m c ∗ scratch c ∗ ∃ r, prngReg c r) else iprop((Yk c ∗ Pipeline.ownSems0 osem c) ∗ scratch c ∗ ∃ r, prngReg c r)
  q _ := fullShare
  owed t := if t.val = 0 then owed c 0 else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem before_0 (c : Dev nD) (t : Fin cfg0.N) (d) : (dat m c).before 0 t d = iblk m c 0 t := by
  unfold Pipeline.Dat.before; rw [if_pos (fetch0_0 t)]; unfold Pipeline.Dat.fetched Pipeline.Dat.blockOf iblk; dsimp only [dat]; rfl
theorem after_0 (c : Dev nD) (t : Fin cfg0.N) : (dat m c).after 0 t = iblk m c 0 t := by dsimp only [dat]
theorem before_1 (c : Dev nD) (t : Fin cfg0.N) (d) : (dat m c).before 1 t d = iblk m c 1 t := by
  unfold Pipeline.Dat.before; rw [if_pos (fetch0_1 t)]; unfold Pipeline.Dat.fetched Pipeline.Dat.blockOf iblk; dsimp only [dat]; rfl
theorem after_1 (c : Dev nD) (t : Fin cfg0.N) : (dat m c).after 1 t = iblk m c 1 t := by dsimp only [dat]
theorem before_2 (c : Dev nD) (t : Fin cfg0.N) (d) : (dat m c).before 2 t d = iblk m c 2 t := by
  unfold Pipeline.Dat.before; rw [if_pos (fetch0_2 t)]; unfold Pipeline.Dat.fetched Pipeline.Dat.blockOf iblk; dsimp only [dat]; rfl
theorem after_2 (c : Dev nD) (t : Fin cfg0.N) : (dat m c).after 2 t = iblk m c 2 t := by dsimp only [dat]
theorem before_3 (c : Dev nD) (t : Fin cfg0.N) (d) : (dat m c).before 3 t d = iblk m c 3 t := by
  unfold Pipeline.Dat.before; rw [if_pos (fetch0_3 t)]; unfold Pipeline.Dat.fetched Pipeline.Dat.blockOf iblk; dsimp only [dat]; rfl
theorem after_3 (c : Dev nD) (t : Fin cfg0.N) : (dat m c).after 3 t = iblk m c 3 t := by dsimp only [dat]
theorem before_4 (c : Dev nD) (t : Fin cfg0.N) (d) : (dat m c).before 4 t d = iblk m c 4 t := by
  unfold Pipeline.Dat.before; rw [if_pos (fetch0_4 t)]; unfold Pipeline.Dat.fetched Pipeline.Dat.blockOf iblk; dsimp only [dat]; rfl
theorem after_4 (c : Dev nD) (t : Fin cfg0.N) : (dat m c).after 4 t = iblk m c 4 t := by dsimp only [dat]
theorem after_5 (c : Dev nD) (t : Fin cfg0.N) : (dat m c).after 5 t = result (I m) c := by dsimp only [dat]

/-- Each window's one block is its whole array. -/
theorem blk_0 (c : Dev nD) : iblk m c 0 t0_0 = (I m c).x := by
  funext y
  unfold iblk
  rw [View.read_apply]
  exact congrArg (V m c main_v1) (funext fun a => Fin.ext (Pipeline.Window.rect_emb_val_of_index_zero win0_0 t0_0 a rfl y))
theorem blk_1 (c : Dev nD) : iblk m c 1 t0_0 = (I m c).wq := by
  funext y
  unfold iblk
  rw [View.read_apply]
  exact congrArg (V m c main_arg1) (funext fun a => Fin.ext (Pipeline.Window.rect_emb_val_of_index_zero win0_1 t0_0 a rfl y))
theorem blk_2 (c : Dev nD) : iblk m c 2 t0_0 = (I m c).wo := by
  funext y
  unfold iblk
  rw [View.read_apply]
  exact congrArg (V m c main_arg4) (funext fun a => Fin.ext (Pipeline.Window.rect_emb_val_of_index_zero win0_2 t0_0 a rfl y))
theorem blk_3 (c : Dev nD) : iblk m c 3 t0_0 = (I m c).k := by
  funext y
  unfold iblk
  rw [View.read_apply]
  exact congrArg (V m c main_v2) (funext fun a => Fin.ext (Pipeline.Window.rect_emb_val_of_index_zero win0_3 t0_0 a rfl y))
theorem blk_4 (c : Dev nD) : iblk m c 4 t0_0 = (I m c).v := by
  funext y
  unfold iblk
  rw [View.read_apply]
  exact congrArg (V m c main_v3) (funext fun a => Fin.ext (Pipeline.Window.rect_emb_val_of_index_zero win0_4 t0_0 a rfl y))

end Cert.KernelIdeal.Talk

end
-- ==== Proof.KernelIdeal.Obligation.lean ====
/-
  The kernel on one device takes the state before it to the state after it.
-/
module

public import proofs.«01_k».proof.Proof.KernelIdeal.State

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The kernel on one device, from the state before it to the state after it -/

/-- The state before, in the pieces the kernel's run takes. -/
theorem enter (c : Dev nD) (f₁ : Buf (Elt F) ((c : Thread nD τ).loc cc0_scratch1)) (f₂ : Buf (Elt F) ((c : Thread nD τ).loc cc0_scratch2)) :
    iprop(bars c ∗ (bigSep Finset.univ fun p : Slot => trade c p)
        ∗ (bigSep Finset.univ fun k : Fin 2 × Slot => iprop(atPos ER (ownCell c k) 0 ∅ 0 ∗ reached ER (ownCell c k) 0))
        ∗ (((c : Thread nD τ).loc cc0_scratch1) ↦{fullShare} f₁) ∗ (((c : Thread nD τ).loc cc0_scratch2) ↦{fullShare} f₂))
      ⊢ (iprop(sendSlots c ∗ cred (tallyAt (barCell c) () 3) ∗ atPos ER (barCell c) 0 ∅ 0 ∗ (hand c 0 ∗ hand c 1 ∗ hand c 2)
        ∗ sendRights c ∗ recvRights c ∗ sentRights c) : sProp 𝕄) := by
  refine (sep_mono_right (sep_mono_right (sep_mono_right (sep_mono (send_split c f₁) (recv_split c f₂))))).trans ?_
  rw [six, six, six, own_cells (fun g => iprop(atPos ER g 0 ∅ 0 ∗ reached ER g 0))]
  unfold bars trade
  rw [three]
  iintro ⟨⟨Hc, Ha, G0, G1, G2⟩, ⟨⟨T00, U00, C00⟩, ⟨T01, U01, C01⟩, ⟨T10, U10, C10⟩, ⟨T11, U11, C11⟩, ⟨T20, U20, C20⟩, ⟨T21, U21, C21⟩⟩,
    ⟨⟨⟨P00, #p00⟩, ⟨P01, #p01⟩, ⟨P10, #p10⟩, ⟨P11, #p11⟩, ⟨P20, #p20⟩, ⟨P21, #p21⟩⟩,
      ⟨⟨R00, #r00⟩, ⟨R01, #r01⟩, ⟨R10, #r10⟩, ⟨R11, #r11⟩, ⟨R20, #r20⟩, ⟨R21, #r21⟩⟩⟩,
    ⟨S00, S01, S10, S11, S20, S21⟩, ⟨V00, V01, V10, V11, V20, V21⟩⟩
  unfold sendSlots hand sendRights recvRights sentRights toks mayRecv
  isplitl [S00 S01 S10 S11 S20 S21]
  · iframe S00 S01 S10 S11 S20 S21
  isplitl [Hc]
  · iexact Hc
  isplitl [Ha]
  · iexact Ha
  isplitl [G0 G1 G2 V00 V01 V10 V11 V20 V21]
  · iframe G0 G1 G2 V00 V01 V10 V11 V20 V21 r00 r01 r10 r11 r20 r21
  isplitl [T00 T01 T10 T11 T20 T21 U00 U01 U10 U11 U20 U21]
  · iframe T00 T01 T10 T11 T20 T21 U00 U01 U10 U11 U20 U21 p00 p01 p10 p11 p20 p21
  isplitl [C00 C01 C10 C11 C20 C21 R00 R01 R10 R11 R20 R21]
  · iframe C00 C01 C10 C11 C20 C21 R00 R01 R10 R11 R20 R21
  iframe P00 P01 P10 P11 P20 P21

/-- The scratch buffers given back. -/
theorem leave (J : Dev nD → Ins F) (c : Dev nD) : iprop(accs J c ![3, 3] ∗ sendSlots c ∗ recvSlots J c) ⊢ (scratch c : sProp 𝕄) := by
  have hs : (sendSlots c : sProp 𝕄) ⊢ iprop(∃ f : Buf (Elt F) ((c : Thread nD τ).loc cc0_scratch1), ((c : Thread nD τ).loc cc0_scratch1) ↦{fullShare} f) := by
    unfold sendSlots
    iintro ⟨⟨%f, S00⟩, Hs⟩
    iapply (send_join c f)
    irw [six]
    isplitl [S00]
    · iexists f; iexact S00
    iexact Hs
  have hr : (recvSlots J c : sProp 𝕄) ⊢ iprop(∃ f : Buf (Elt F) ((c : Thread nD τ).loc cc0_scratch2), ((c : Thread nD τ).loc cc0_scratch2) ↦{fullShare} f) := by
    unfold recvSlots rFull
    iintro ⟨⟨%f, -, R00⟩, ⟨%f1, -, R01⟩, ⟨%f2, -, R10⟩, ⟨%f3, -, R11⟩, ⟨%f4, -, R20⟩, ⟨%f5, -, R21⟩⟩
    iapply (recv_join c f)
    irw [six]
    isplitl [R00]
    · iexists f; iexact R00
    isplitl [R01]
    · iexists f1; iexact R01
    isplitl [R10]
    · iexists f2; iexact R10
    isplitl [R11]
    · iexists f3; iexact R11
    isplitl [R20]
    · iexists f4; iexact R20
    iexists f5; iexact R21
  refine (sep_mono_right (sep_mono hs hr)).trans ?_
  unfold accs filled accPts scratch
  iintro ⟨⟨%f, -, H0⟩, H1, H2⟩
  isplitl [H0]
  · iexists f; iexact H0
  isplitl [H1] <;> iassumption

theorem owed_first (c : Dev nD) : (dat (F := F) m c).owed t0_0.castSucc = owing (debts c) := by
  show (if (t0_0.castSucc : Fin (cfg0.N + 1)).val = 0 then owing (debts c) else 0) = owing (debts c); exact if_pos rfl
theorem owed_last (c : Dev nD) : (pdats (F := F) m 0 c).owed (Fin.last _) = 0 := by
  show (if (Fin.last cfg0.N).val = 0 then owing (debts c) else 0) = 0
  rw [Fin.val_last, if_neg (by rw [show cfg0.N = 1 from N_0]; decide)]

theorem owes_in {c : Dev nD} (t : Fin (cfg0.N + 1)) {O : CellTallies nD τ sig Unit} (h : (dat (F := F) m c).owed t = O) :
    ((dat m c).owesAt () t : sProp 𝕄) ⊢ iprop(∃ W, owes (c : Thread nD τ) O W) := by
  unfold Pipeline.Dat.owesAt Pipeline.owesWithin; rw [h]
  iintro ⟨%W, -, HO⟩; iexists W; iexact HO
theorem owes_out {c : Dev nD} (t : Fin (cfg0.N + 1)) {O : CellTallies nD τ sig Unit} (h : (dat (F := F) m c).owed t = O) :
    iprop(∃ W, owes (c : Thread nD τ) O W) ⊢ ((dat m c).owesAt () t : sProp 𝕄) := by
  unfold Pipeline.Dat.owesAt Pipeline.owesWithin Pipeline.Dat.bound; rw [h, show (dat m c).recorded t = Set.univ from rfl]
  iintro ⟨%W, HO⟩; iexists W; isplitr; · ipureintro; exact fun _ _ => Or.inl trivial
  iexact HO

theorem defs_tc : (defs₀ (F := F)) .tc cfg0.body = fun a =>
    cc0_body (win0_0.stage (a.2 0)) (hstage0_0 0) (win0_1.stage (a.2 1)) (hstage0_1 0) (win0_2.stage (a.2 2)) (hstage0_2 0)
      (win0_3.stage (a.2 3)) (hstage0_3 0) (win0_4.stage (a.2 4)) (hstage0_4 0) (win0_5.stage (a.2 5)) (hstage0_5 0)
      accM (Memref.isWhole_whole _) sM (Memref.isWhole_whole _) rM (Memref.isWhole_whole _) cc0_scratch3 cc0_scratch4 := rfl
theorem prog_eq (t : Fin cfg0.N) : (defs₀ (F := F)) .tc cfg0.body (cfg0.bodyArgs t (cfg0.slots t)) = bodyAt0 t := (congrFun defs_tc _).trans rfl

set_option backward.isDefEq.respectTransparency.types false in
theorem body_runs (c : Dev nD) : Pipeline.BodyObligation (dat (F := F) m c) defs₀ 𝒱₀ () Set.univ := fun t => by
  obtain rfl := fin_N0 t
  rw [bigSep_W0, bigSep_W0]
  dsimp only
  simp only [before_0, before_1, before_2, before_3, before_4, after_0, after_1, after_2, after_3, after_4, after_5]
  rw [blk_0, blk_1, blk_2, blk_3, blk_4]
  rw [show (dat m c).Φ t0_0.castSucc = iprop(Xk m c ∗ scratch c ∗ ∃ r, prngReg c r) from rfl,
    show (dat m c).Φ t0_0.succ = iprop((Yk c ∗ Pipeline.ownSems0 osem c) ∗ scratch c ∗ ∃ r, prngReg c r) from rfl]
  unfold Xk scratch
  iintro ⟨⟨⟨⟨%K, #HR⟩, #HL, Hb, Ht, Ho⟩, ⟨⟨%f₀, H0⟩, ⟨%f₁, H1⟩, ⟨%f₂, H2⟩⟩, Hreg⟩, HO, ⟨%d0, W0⟩, ⟨%d1, W1⟩, ⟨%d2, W2⟩, ⟨%d3, W3⟩, ⟨%d4, W4⟩, ⟨%d5, W5⟩⟩
  ihave HO := (owes_in m _ (owed_first m c)) $$ HO
  ihave He := (enter c f₁ f₂) $$ [Hb Ht Ho H1 H2]
  · iframe Hb Ht Ho H1 H2
  icases He with ⟨HS, Hc, Ha, Hh, Hsr, Hrr, Hst⟩
  ihave W5 := (written_none (win0_5.stage (cfg0.slots t0_0 5)) (I m) c _) $$ W5
  sl_rw [prog_eq t0_0]
  unfold bodyAt0
  iapply (run_body (win0_0.stage (cfg0.slots t0_0 0)) (hstage0_0 0) (win0_1.stage (cfg0.slots t0_0 1)) (hstage0_1 0) (win0_2.stage (cfg0.slots t0_0 2)) (hstage0_2 0)
    (win0_3.stage (cfg0.slots t0_0 3)) (hstage0_3 0) (win0_4.stage (cfg0.slots t0_0 4)) (hstage0_4 0) (win0_5.stage (cfg0.slots t0_0 5)) (hstage0_5 0)
    (Memref.isWhole_whole _) (Memref.isWhole_whole _) (Memref.isWhole_whole _) (I m) K c) $$ [W0 W1 W2 W3 W4 W5 H0 HS Hc Ha Hh Hsr Hrr Hst HO]
  · unfold windows debt
    iframe W0 W1 W2 W3 W4 W5 HS Hc Ha Hh Hsr Hrr Hst HO HR HL
    unfold shares filled accPts
    iexists f₀
    isplitr
    · ipureintro
      rintro b r l (h | ⟨-, h | h | ⟨h, -⟩⟩)
      · exact absurd h (Nat.not_lt_zero _)
      · omega
      · omega
      · cases h
    iexact H0
  iintro ⟨Hw, W5, Hacc, HS, HV, Hsp, HO⟩
  imod (close_cells (sent (I m)) K c) $$ [Hsp] with ⟨Hy, Hown⟩
  · isplitr
    · iexact HR
    iexact Hsp
  imodintro
  ihave Hscr := (leave (I m) c) $$ [Hacc HS HV]
  · iframe Hacc HS HV
  ihave W5 := (written_all (win0_5.stage (cfg0.slots t0_0 5)) (I m) c) $$ W5
  unfold scratch windows
  icases Hw with ⟨W0, W1, W2, W3, W4⟩
  isplitl [Hy Hown Hscr Hreg]
  · iframe Hy Hown Hscr Hreg
  isplitl [HO]
  · iapply (owes_out m t0_0.succ (owed_last m c))
    unfold debt
    iexact HO
  isplitl [W0]
  · iexact W0
  isplitl [W1]
  · iexact W1
  isplitl [W2]
  · iexact W2
  isplitl [W3]
  · iexact W3
  isplitl [W4]
  · iexact W4
  iexact W5

end Cert.KernelIdeal.Talk

end
-- ==== Proof.KernelIdeal.Region.lean ====
/-
  The kernel as a region of the program, and the program as its three segments.
-/
module

public import proofs.«01_k».proof.Proof.KernelIdeal.Obligation
public import Idealize.ShloMosaic.Lib.Pipeline.RegionTalk

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- The buffers the windows see. -/
abbrev arrays : Finset (DevRef τ sig) := Pipeline.arrRefs (τ := τ) (pcfgs (F := F) 0).spec
/-- All buffers of the program, and the ones no window sees. -/
abbrev allRefs : Finset (DevRef τ sig) := Pipeline.ucRefs τ sig
abbrev others : Finset (DevRef τ sig) := allRefs \ arrays (F := F)

theorem arr_mem (w : Fin cfg0.W) : Proc.devRef .tc (Pipeline.arrRef spec0 w) ∈ arrays (F := F) :=
  Finset.mem_map_of_mem _ (Finset.mem_image_of_mem _ (Finset.mem_univ w))

/-- The kernel changes its result's buffer alone. -/
theorem W'_ne (c : Dev nD) {b : DevRef τ sig} (h : b ≠ Proc.devRef .tc main_v4) : W' m c b = V0 m c b := by unfold W'; exact Function.update_of_ne h _ _
theorem W'_out (c : Dev nD) : W' m c (Proc.devRef .tc main_v4) = result (I m) c := by unfold W'; exact Function.update_self _ _ _
theorem W'_others (c : Dev nD) : ∀ b ∈ others (F := F) \ ∅, W' m c b = V0 m c b := fun b hb =>
  W'_ne m c fun e => (Finset.mem_sdiff.mp (Finset.mem_sdiff.mp hb).1).2 (e ▸ arr_mem (F := F) 5)

theorem arr_first (c : Dev nD) (w : Fin cfg0.W) : (dat m c).arrAt w 0 = V0 m c (Proc.devRef .tc (Pipeline.arrRef spec0 w)) := rfl
theorem arr_last (c : Dev nD) (w : Fin cfg0.W) : (dat m c).arrAt w cfg0.N = W' m c (Proc.devRef .tc (Pipeline.arrRef spec0 w)) := by
  fin_cases w
  · exact ((dat m c).arrAt_in 0 rfl _).trans (W'_ne m c (b := Proc.devRef .tc main_v1) (StableHlo.devRef_ne_of_ne (by decide))).symm
  · exact ((dat m c).arrAt_in 1 rfl _).trans (W'_ne m c (b := Proc.devRef .tc main_arg1) (StableHlo.devRef_ne_of_ne (by decide))).symm
  · exact ((dat m c).arrAt_in 2 rfl _).trans (W'_ne m c (b := Proc.devRef .tc main_arg4) (StableHlo.devRef_ne_of_ne (by decide))).symm
  · exact ((dat m c).arrAt_in 3 rfl _).trans (W'_ne m c (b := Proc.devRef .tc main_v2) (StableHlo.devRef_ne_of_ne (by decide))).symm
  · exact ((dat m c).arrAt_in 4 rfl _).trans (W'_ne m c (b := Proc.devRef .tc main_v3) (StableHlo.devRef_ne_of_ne (by decide))).symm
  · exact (Pipeline.Dat.arrAt_eq_of_after_last (dat := dat m c) (w := 5) t0_0 (by decide +kernel : (cfg0.win 5).WholeAt t0_0) (result (I m) c) (fun j => rfl)).trans (W'_out m c).symm

theorem share_full (c : Dev nD) (w : Fin cfg0.W) : (dat m c).share w = fullShare := by
  fin_cases w <;> rfl

/-- What is still owed lies above every staging semaphore. -/
theorem owed_above (c : Dev nD) (t : Fin (cfg0.N + 1)) (g : GSem nD τ sig) (i : Unit) (h : 0 < (dat (F := F) m c).owed t g i) : i ∈ L g ∧ (0 : ℕ) < lv g i := by
  have e : (dat (F := F) m c).owed t = if t.val = 0 then owing (debts c) else 0 := rfl
  rw [e] at h
  split at h
  · obtain ⟨p, hp, rfl⟩ := owing_pos h
    simp only [debts, List.mem_cons, List.not_mem_nil, or_false] at hp
    rcases hp with rfl | rfl | rfl | rfl | rfl | rfl | rfl | rfl | rfl <;>
      exact ⟨by rw [L_tc]; exact Finset.mem_singleton_self _, by first | rw [lv_recv]; omega | exact Nat.one_pos⟩
  · exact absurd h (Nat.lt_irrefl 0)

theorem stage_low (c : Dev nD) (w : Fin cfg0.W) (s : Fin (cfg0.win w).nbuf) : lv ((c : Thread nD τ), .dma ((cfg0.win w).sem s)) () ≤ 0 := by
  have h : ∀ (w : Fin cfg0.W) (s : Fin (cfg0.win w).nbuf), ¬ 12 ≤ ((cfg0.win w).sem s).val := by decide
  show (if 12 ≤ ((cfg0.win w).sem s).val then _ else 0) ≤ 0
  rw [if_neg (h w s)]

theorem kitP : Pipeline.PLaunchFacts (nD := nD) (τ := τ) (pcfgs (F := F)) 0 := launch0.toP

theorem nothing_held (c : Dev nD) (W : Valuation τ sig (Elt F)) : (StableHlo.held (c.tc : Thread nD τ) ∅ W : sProp 𝕄) = BI.emp := by
  unfold StableHlo.held; exact BI.bigSep_empty

theorem region_in (c : Dev nD) : iprop(Pipeline.scopedRest (Pipeline.pin (pcfgs (F := F)) adm 0).spec c ∗ (∃ r, prngReg c r) ∗ StableHlo.held (c.tc : Thread nD τ) ∅ (V0 m c) ∗ Xk m c)
    ⊢ (pdats m 0 c).Φ 0 := by
  rw [show (pdats m 0 c).Φ 0 = iprop(Xk m c ∗ scratch c ∗ ∃ r, prngReg c r) from rfl, scopedRest0_eq]
  unfold scratch
  iintro ⟨Hs, Hp, -, HX⟩
  isplitl [HX]
  · iexact HX
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W' m c) ∗ Pipeline.ownSems0 osem c ∗ Yk c) := by
  rw [show (pdats m 0 c).Φ (Fin.last _) = iprop((Yk c ∗ Pipeline.ownSems0 osem c) ∗ scratch c ∗ ∃ r, prngReg c r) from rfl, scopedRest0_eq, nothing_held]
  unfold scratch
  iintro ⟨⟨Hy, Ho⟩, Hs, Hp⟩
  isplitl [Hs]
  · iexact Hs
  isplitl [Hp]
  · iexact Hp
  isplitr
  · iempintro
  isplitl [Ho] <;> iassumption

set_option backward.isDefEq.respectTransparency.types false in
/-- The kernel as a region of the program. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others (F := F)) (Finset.empty_subset _) kitP rfl (fun c => (body_runs m c).loose)
    (fun _ => 0) (fun c => owing (debts c)) (fun c => (owed_first m c).trans (zero_add _).symm) (owed_last m) (fun _ => rfl) (share_full m)
    (V0 m) (W' m) (W'_others m)
    (Tk m) Yk (Xk m) Yk (open_cells m) (region_in m) (region_out m)
    (fun c => by iintro H; imodintro; iexact H)
    (fun _ => 0)
    ⟨fun c w s => by rw [L_tc]; exact Finset.mem_singleton_self _, stage_low, fun c t g i h => owed_above m c t g i h⟩
    (fun _ => iprop(emp))
    (arr_first m) (arr_last m)

/-- What rides beside the buffers up to the kernel, and after it. -/
def Rin (c : Dev nD) : sProp 𝕄 := iprop(Tk m c ∗ (∃ r, prngReg c r) ∗ ∃ W, owes (c : Thread nD τ) (owing (debts c)) W)
def Rout (c : Dev nD) : sProp 𝕄 := iprop(semVal (barCell c) 0 ∗ ∃ W, owes (c : Thread nD τ) (0 : CellTallies nD τ sig Unit) W)

theorem arrays_sub : arrays (F := F) ⊆ allRefs := Pipeline.arrRefs_sub_ucRefs _ launch0.win.arr_unscoped

theorem region_pre (c : Dev nD) : iprop(StableHlo.held (c : Thread nD τ) allRefs (V0 m c) ∗ Rin m c) ⊢ (region m).pre c := by
  show _ ⊢ iprop(StableHlo.held (c.tc : Thread nD τ) (arrays (F := F)) (V0 m c) ∗ (∃ r, prngReg c r)
    ∗ (StableHlo.held (c.tc : Thread nD τ) (others (F := F)) (V0 m c) ∗ emp) ∗ Tk m c ∗ ∃ Wd, owes (c : Thread nD τ) (0 + owing (debts c)) Wd)
  rw [StableHlo.held_sub_split (c.tc : Thread nD τ) (arrays_sub (F := F)), zero_add]
  unfold Rin
  iintro ⟨⟨Ha, Hr⟩, Ht, Hp, HO⟩
  isplitl [Ha]; · iexact Ha
  isplitl [Hp]; · iexact Hp
  isplitl [Hr]
  · isplitl [Hr]; · iexact Hr
    iempintro
  isplitl [Ht] <;> iassumption

theorem region_post (c : Dev nD) : (region m).post c ⊢ iprop(StableHlo.held (c : Thread nD τ) allRefs (W' m c) ∗ Rout c) := by
  show iprop(StableHlo.held (c.tc : Thread nD τ) (arrays (F := F)) (W' m c) ∗ (∃ r, prngReg c r)
    ∗ (StableHlo.held (c.tc : Thread nD τ) (others (F := F)) (W' m c) ∗ emp) ∗ Yk c ∗ ∃ Wd, owes (c : Thread nD τ) (0 : CellTallies nD τ sig Unit) Wd) ⊢ _
  rw [StableHlo.held_sub_split (c.tc : Thread nD τ) (arrays_sub (F := F))]
  unfold Rout Yk
  iintro ⟨Ha, -, ⟨Hr, -⟩, Hb, HO⟩
  isplitl [Ha Hr]
  · isplitl [Ha] <;> iassumption
  isplitl [Hb] <;> iassumption

/-- The program's three segments: reshapes, the kernel, a reshape. -/
def before : Pipeline.HostSeg (Name := ℕ) (U := UU) (pcfgs (F := F)) defs₀ 𝒱₀ L lv :=
  Pipeline.HostSeg.ofOps _ _ _ _ _ allRefs hostOps0 (fun op h => Pipeline.sub_ucRefs op (List.forall_iff_forall_mem.mp hostOps0_sub op h))
    (List.forall_iff_forall_mem.mp hostOps0_fresh) (fun c b => m (c, b)) (Rin m)
def behind : Pipeline.HostSeg (Name := ℕ) (U := UU) (pcfgs (F := F)) defs₀ 𝒱₀ L lv :=
  Pipeline.HostSeg.ofOps _ _ _ _ _ allRefs hostOps1 (fun op h => Pipeline.sub_ucRefs op (List.forall_iff_forall_mem.mp hostOps1_sub op h))
    (List.forall_iff_forall_mem.mp hostOps1_fresh) (W' m) Rout
def segs : List (Pipeline.Seg (pcfgs (F := F)) adm (pdats m) () defs₀ 𝒱₀ L lv) := [.host (before m), .region (region m), .host (behind m)]

theorem main_eq (c : Dev nD) : main (F := F) c = Pipeline.Seg.run (segs m) := main_segs adm (pdats m) () 𝒱₀ L lv (before m) (behind m) (region m) rfl rfl c

/-! ## What the buffers hold at the end -/

/-- The program's result on device `c`. -/
def output (c : Dev nD) : Buf (Elt F) ((c : Thread nD τ).loc main_v5) := shapeCast S2x128x512 (result (I m) c) shapeCasts_S256x512_S2x128x512

theorem Vend_v5 (c : Dev nD) : Vend m c (Proc.devRef .tc main_v5) = output m c := by
  unfold Vend
  rw [StableHlo.after_cons, StableHlo.after_nil, StableHlo.reshape_result', W'_out]
  rfl

theorem Vend_ne (c : Dev nD) {b : Ref sig .tc} (h : b ≠ main_v4) (h' : b ≠ main_v5) : Vend m c (Proc.devRef .tc b) = V m c b := by
  unfold Vend
  rw [StableHlo.after_cons, StableHlo.after_nil, StableHlo.reshape_result_ne' (h := h'), W'_ne m c (StableHlo.devRef_ne_of_ne h)]

/-- Everything the program holds at the end, buffer by buffer. -/
theorem refs_list (c : Dev nD) (W : Valuation τ sig (Elt F)) : (StableHlo.held (c : Thread nD τ) allRefs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v5) ↦{fullShare} W (Proc.devRef .tc main_v5))
      ∗ (((c : Thread nD τ).loc main_v1) ↦{fullShare} W (Proc.devRef .tc main_v1)) ∗ (((c : Thread nD τ).loc main_v2) ↦{fullShare} W (Proc.devRef .tc main_v2))
      ∗ (((c : Thread nD τ).loc main_v3) ↦{fullShare} W (Proc.devRef .tc main_v3)) ∗ (((c : Thread nD τ).loc main_v4) ↦{fullShare} W (Proc.devRef .tc main_v4))) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v5, Proc.devRef .tc main_v1, Proc.devRef .tc main_v2, Proc.devRef .tc main_v3, Proc.devRef .tc main_v4] (by decide) (by decide)]
  rfl

end Cert.KernelIdeal.Talk

end
-- ==== Proof.KernelIdeal.Launch.lean ====
/-
  The launch: the cells and tokens dealt to the devices, and the run of the program.
-/
module

public import proofs.«01_k».proof.Proof.KernelIdeal.Region

@[expose] public section

set_option maxRecDepth 16384

noncomputable section

namespace Cert.KernelIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the launch -/

theorem osem_inj : Function.Injective osem := by decide
theorem osem_ne_bar : ∀ k : Fin 2 × Slot, osem k ≠ .reg barrier0 := by decide

def barEmb : Dev nD ↪ GSem nD τ sig := ⟨fun c => barCell c, fun _ _ h => congrArg (fun g : GSem nD τ sig => g.1.1) h⟩
def ownEmb : Dev nD × (Fin 2 × Slot) ↪ GSem nD τ sig :=
  ⟨fun p => ownCell p.1 p.2, fun _ _ h => Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

/-- One token per signal, and one per transfer cell. -/
def barTokEmb : Dev nD × Fin 3 ↪ GSem nD τ sig × ℕ × Fin 3 :=
  ⟨fun p => (barCell p.1, 0, p.2), fun _ _ h => Prod.ext (congrArg (fun t : GSem nD τ sig × ℕ × Fin 3 => t.1.1.1) h) (congrArg (fun t : GSem nD τ sig × ℕ × Fin 3 => t.2.2) h)⟩
def ownTokEmb : Dev nD × (Fin 2 × Slot) ↪ GSem nD τ sig × ℕ × Fin 3 :=
  ⟨fun p => (ownCell p.1 p.2, 0, 0), fun _ _ h => ownEmb.injective (congrArg (fun t : GSem nD τ sig × ℕ × Fin 3 => t.1) h)⟩
abbrev barToks : Finset (GSem nD τ sig × ℕ × Fin 3) := Finset.univ.map barTokEmb
abbrev ownToks : Finset (GSem nD τ sig × ℕ × Fin 3) := Finset.univ.map ownTokEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)
theorem toks_disjoint : Disjoint (barToks : Finset (GSem nD τ sig × ℕ × Fin 3)) ownToks := by
  rw [Finset.disjoint_left]
  rintro g h₁ h₂
  obtain ⟨c, -, rfl⟩ := Finset.mem_map.mp h₁
  obtain ⟨p, -, h⟩ := Finset.mem_map.mp h₂
  exact osem_ne_bar p.2 (congrArg (fun t : GSem nD τ sig × ℕ × Fin 3 => t.1.2) h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 2 × Slot) : ownCell c k ∈ (barCells ∪ ownCells : Finset (GSem nD τ sig)) :=
  Finset.mem_union_right _ (Finset.mem_map_of_mem ownEmb (Finset.mem_univ (c, k)))

abbrev started : URounds (GSem nD τ sig) (Fin 3) := launchOf barCells ownCells (barToks ∪ ownToks)
def u₀ : UU :=
  (initOf (Pipeline.cells (Pipeline.pin (pcfgs (F := F)) adm) cellOf_inj) (Pipeline.launchToks (Pipeline.pin (pcfgs (F := F)) adm) cellOf_inj), started)

/-- The protocol's start, lying with device 0. -/
def G (c : Dev nD) : sProp 𝕄 := if c = 0 then BI.own (ER started) else iprop(emp)
theorem bigSep_G : bigSep Finset.univ (G (F := F)) = BI.own (ER started) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What the launch deals to everyone -/

theorem recs_intro (B : Sent F) (K : GSem nD τ sig → ℕ) :
    iprop((bigSep (barCells ∪ ownCells) fun g => cellInv ER (sched B) (K g) g) ∗ bigSep barCells fun g => reached ER g 0) ⊢ (recs B K : sProp 𝕄) := by
  have hb (Φ : GSem nD τ sig → sProp 𝕄) : bigSep barCells Φ = bigSep Finset.univ fun c : Dev nD => Φ (barCell c) := bigSep_map barEmb
  have ho (Φ : GSem nD τ sig → sProp 𝕄) : bigSep ownCells Φ = iprop((bigSep Finset.univ fun p : Dev nD × Slot => Φ (sendCell p.1 p.2.1 p.2.2))
      ∗ bigSep Finset.univ fun p : Dev nD × Slot => Φ (recvCell p.1 p.2.1 p.2.2)) := by
    rw [bigSep_map, bigSep_univ_prod, bigSep_univ_prod, bigSep_univ_prod, ← bigSep_sep']
    exact bigSep_congr fun c _ => by rw [bigSep_univ_prod, BI.bigSep_fin_two]; rfl
  unfold recs
  have hs (Φ : GSem nD τ sig → sProp 𝕄) : bigSep (barCells ∪ ownCells) Φ = iprop(bigSep barCells Φ ∗ bigSep ownCells Φ) := bigSep_union cells_disjoint
  rw [hs, hb, hb, ho]
  iintro ⟨⟨H1, H2, H3⟩, H4⟩
  isplitl [H1]
  · iexact H1
  isplitl [H2]
  · iexact H2
  isplitl [H3] <;> iassumption

/-- What stays with device `c`. -/
def linear (c : Dev nD) : sProp 𝕄 :=
  iprop((atPos ER (barCell c) 0 ∅ 0 ∗ bigSep Finset.univ fun k : Fin 3 => dutyTok ER (barCell (peer k c)) 0 k)
    ∗ (bigSep Finset.univ fun p : Slot => iprop(dutyTok ER (sendCell c p.1 p.2) 0 0 ∗ dutyTok ER (recvCell (peer p.1 c) p.1 p.2) 0 0))
    ∗ bigSep Finset.univ fun k : Fin 2 × Slot => openTok ER (ownCell c k))

/-- Every token goes to the device that will pay it: a partner's, by the step. -/
theorem deal : (bigSep (barToks ∪ ownToks) (fun x => (dutyTok ER x.1 x.2.1 x.2.2 : sProp 𝕄)))
    ⊢ iprop((bigSep Finset.univ fun c : Dev nD => bigSep Finset.univ fun k : Fin 3 => dutyTok ER (barCell (peer k c)) 0 k)
      ∗ bigSep Finset.univ fun c : Dev nD => bigSep Finset.univ fun p : Slot => iprop(dutyTok ER (sendCell c p.1 p.2) 0 0 ∗ dutyTok ER (recvCell (peer p.1 c) p.1 p.2) 0 0)) := by
  have around {J : Type} [Fintype J] [DecidableEq J] (step : J → Fin 3) (Φ : J → Dev nD → sProp 𝕄) :
      (bigSep Finset.univ fun c : Dev nD => bigSep Finset.univ fun j : J => Φ j c) = bigSep Finset.univ fun c : Dev nD => bigSep Finset.univ fun j : J => Φ j (peer (step j) c) := by
    rw [bigSep_univ_comm, bigSep_univ_comm (fun c j => Φ j (peer (step j) c))]
    exact bigSep_congr fun j _ => bigSep_univ_equiv (swap (step j)) (Φ j)
  refine Entails.of_eq ?_
  rw [bigSep_union toks_disjoint, bigSep_map, bigSep_map, bigSep_univ_prod, bigSep_univ_prod]
  refine congrArg₂ BI.sep ?_ ?_
  · exact around (fun k : Fin 3 => k) fun k c => dutyTok ER (barCell c) 0 k
  · trans bigSep Finset.univ fun c : Dev nD => iprop((bigSep Finset.univ fun p : Slot => (dutyTok ER (sendCell c p.1 p.2) 0 0 : sProp 𝕄)) ∗ bigSep Finset.univ fun p : Slot => dutyTok ER (recvCell c p.1 p.2) 0 0)
    · exact bigSep_congr fun c _ => by rw [bigSep_univ_prod, BI.bigSep_fin_two]; rfl
    · rw [bigSep_sep', around (fun p : Slot => p.1) fun p c => dutyTok ER (recvCell c p.1 p.2) 0 0, ← bigSep_sep']
      exact bigSep_congr fun c _ => (bigSep_sep' _ _ _).symm

/-! ## The credit of the launch -/

theorem owed_at (d : Dev nD) (g : GSem nD τ sig) (l : List (GSem nD τ sig × ℕ)) : owing l g () = (l.map fun p => if g = p.1 then p.2 else 0).sum := by
  induction l with
  | nil => rfl
  | cons p l ih =>
    show owing l g () + tallyAt p.1 () p.2 g () = _
    rw [List.map_cons, List.sum_cons, ← ih, add_comm, tallyAt_apply]
    simp only [and_true]

theorem pay_bar (c : Dev nD) : ∑ d : Dev nD, owing (debts d) (barCell c) () = 3 := by
  simp only [owed_at c]
  revert c; decide +kernel
theorem pay_recv (c : Dev nD) (p : Slot) : ∑ d : Dev nD, owing (debts d) (recvCell c p.1 p.2) () = N := by
  simp only [owed_at c]
  revert c p; decide +kernel

theorem launch_at (g : GSem nD τ sig) (n : ℕ) (h : ∑ d : Dev nD, owing (debts d) g () = n) :
    tallyOn g (launchCredit (Pipeline.owing fun d => owing (debts d)) 0 g) = (tallyAt g () n : CellTallies nD τ sig Unit) := by
  unfold tallyAt; refine congrArg _ (Finsupp.ext fun u => ?_); cases u
  obtain ⟨⟨c, p⟩, sm⟩ := g
  rw [Pipeline.launchCredit_owing, Finsupp.single_eq_same, h]

theorem creds (c : Dev nD) : (Pipeline.launchCred (fun d => owing (debts d)) c : sProp 𝕄)
    ⊢ iprop(cred (tallyAt (barCell c) () 3) ∗ bigSep Finset.univ fun p : Slot => cred (tallyAt (recvCell c p.1 p.2) () N)) := by
  let recvEmb : Slot ↪ SemLoc sig := ⟨fun p => osem (1, p), fun _ _ h => congrArg Prod.snd (osem_inj h)⟩
  unfold Pipeline.launchCred
  rw [bigSep_univ_at _ (SemLoc.reg barrier0), launch_at (barCell c) 3 (pay_bar c)]
  refine Idealize.SL.BI.sep_mono (BI.Entails.refl _) ((bigSep_subset (t := Finset.univ.map recvEmb) ?_).trans ?_)
  · intro sm h
    obtain ⟨p, -, rfl⟩ := Finset.mem_map.mp h
    exact Finset.mem_erase.mpr ⟨osem_ne_bar (1, p), Finset.mem_univ _⟩
  · rw [bigSep_map]
    exact bigSep_mono fun p _ => Entails.of_eq <| congrArg cred (launch_at (recvCell c p.1 p.2) N (pay_recv c p))

/-! ## The run -/

/-- What of a core's launch holdings is not the protocol's. -/
def bundle (c : Dev nD) : sProp 𝕄 :=
  iprop(StableHlo.held (c : Thread nD τ) allRefs (fun b => m (c, b))
    ∗ (cred (tallyAt (barCell c) () 3) ∗ bigSep Finset.univ fun p : Slot => cred (tallyAt (recvCell c p.1 p.2) () N))
    ∗ owes (c : Thread nD τ) (owing (debts c)) ∅ ∗ ∃ r, prngReg c r)

abbrev Tin (c : Dev nD) : sProp 𝕄 := iprop(StableHlo.held (c : Thread nD τ) allRefs (fun b => m (c, b)) ∗ Rin m c)
abbrev Tout (c : Dev nD) : sProp 𝕄 := iprop(StableHlo.held (c : Thread nD τ) allRefs (Vend m c) ∗ semVal (barCell c) 0)

theorem Tin_intro (K : GSem nD τ sig → ℕ) (c : Dev nD) : iprop(recs (sent (I m)) K ∗ (linear c ∗ bundle m c)) ⊢ Tin m c := by
  have ht : iprop((bigSep Finset.univ fun p : Slot => iprop(dutyTok ER (sendCell c p.1 p.2) 0 0 ∗ dutyTok ER (recvCell (peer p.1 c) p.1 p.2) 0 0))
      ∗ bigSep Finset.univ fun p : Slot => cred (tallyAt (recvCell c p.1 p.2) () N)) ⊢ (bigSep Finset.univ fun p : Slot => trade c p : sProp 𝕄) := by
    rw [← bigSep_sep']
    have one (p : Slot) : iprop((dutyTok ER (sendCell c p.1 p.2) 0 0 ∗ dutyTok ER (recvCell (peer p.1 c) p.1 p.2) 0 0) ∗ cred (tallyAt (recvCell c p.1 p.2) () N))
        ⊢ (trade c p : sProp 𝕄) := by
      unfold trade
      iintro ⟨⟨H1, H2⟩, H3⟩
      isplitl [H1]
      · iexact H1
      isplitl [H2] <;> iassumption
    exact bigSep_mono fun p _ => one p
  unfold bundle linear Tin Rin Tk bars
  iintro ⟨#HR, ⟨⟨Ha, Hd⟩, Ht, Ho⟩, Hh, ⟨Hc, Hcr⟩, HO, Hp⟩
  ihave Htr := ht $$ [Ht Hcr]
  · isplitl [Ht] <;> iassumption
  isplitl [Hh]
  · iexact Hh
  isplitr [Hp HO]
  · isplitr
    · iexists K; iexact HR
    isplitl [Hc Ha Hd]
    · isplitl [Hc]
      · iexact Hc
      isplitl [Ha] <;> iassumption
    isplitl [Htr] <;> iassumption
  isplitl [Hp]
  · iexact Hp
  iexists ∅; iexact HO

theorem unscoped_eq : ∀ sm : SemLoc sig, sm.isScoped .tc = false → sm = .reg barrier0 := by decide
theorem unscoped_sem (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem init :
    iprop((bigSep Finset.univ fun c : Dev nD => iprop(unscopedBufs c (fun b => m ((c : Thread nD τ).loc b)) ∗ unscopedSems0 c
          ∗ owes (c : Thread nD τ) (owing (debts c)) ∅ ∗ Pipeline.launchCred (fun d => owing (debts d)) c ∗ prngReg c (ρ c) ∗ G c)) ∗ levAts L lv)
      ⊢ (|={Set.univ}=> bigSep Finset.univ (Tin m) : sProp 𝕄) := by
  have hcore (c : Dev nD) : iprop(unscopedBufs c (fun b => m ((c : Thread nD τ).loc b)) ∗ unscopedSems0 c
        ∗ owes (c : Thread nD τ) (owing (debts c)) ∅ ∗ Pipeline.launchCred (fun d => owing (debts d)) c ∗ prngReg c (ρ c) ∗ G c)
      ⊢ (iprop(bundle m c ∗ semVal (barCell c) 0 ∗ G c) : sProp 𝕄) := by
    rw [show unscopedBufs c (fun b => m ((c : Thread nD τ).loc b)) = StableHlo.held (c : Thread nD τ) allRefs (fun b => m (c, b)) from
      Pipeline.unscopedBufs_held c (fun b => m (c, b)), unscoped_sem]
    unfold bundle
    iintro ⟨Hh, Hs, HO, Hcr, Hp, HG⟩
    ihave Hc := (creds (F := F) c) $$ Hcr
    isplitr [Hs HG]
    · isplitl [Hh]
      · iexact Hh
      isplitl [Hc]
      · iexact Hc
      isplitl [HO]
      · iexact HO
      iexists (ρ c); iexact Hp
    isplitl [Hs] <;> iassumption
  have hv : bigSep Finset.univ (fun c : Dev nD => (semVal (barCell c) 0 : sProp 𝕄)) ⊢ bigSep barCells (fun g => (semVal g 0 : sProp 𝕄)) :=
    Entails.of_eq (bigSep_map barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map barEmb)
  have hopen : bigSep ownCells (fun g => (openTok ER g : sProp 𝕄))
      ⊢ bigSep Finset.univ (fun c : Dev nD => bigSep Finset.univ fun k : Fin 2 × Slot => openTok ER (ownCell c k)) :=
    Entails.of_eq (by rw [bigSep_map, bigSep_univ_prod]; rfl)
  have hlin : iprop(((bigSep Finset.univ fun c : Dev nD => atPos ER (barCell c) 0 ∅ 0)
          ∗ bigSep Finset.univ fun c : Dev nD => bigSep Finset.univ fun k : Fin 3 => dutyTok ER (barCell (peer k c)) 0 k)
        ∗ (bigSep Finset.univ fun c : Dev nD => bigSep Finset.univ fun p : Slot => iprop(dutyTok ER (sendCell c p.1 p.2) 0 0 ∗ dutyTok ER (recvCell (peer p.1 c) p.1 p.2) 0 0))
        ∗ bigSep Finset.univ fun c : Dev nD => bigSep Finset.univ fun k : Fin 2 × Slot => openTok ER (ownCell c k))
      ⊢ (bigSep Finset.univ fun c : Dev nD => linear c : sProp 𝕄) := by
    unfold linear
    rw [bigSep_sep', bigSep_sep', bigSep_sep']
  iintro ⟨H, -⟩
  ihave H := (show (bigSep Finset.univ fun c : Dev nD => iprop(unscopedBufs c (fun b => m ((c : Thread nD τ).loc b)) ∗ unscopedSems0 c
        ∗ owes (c : Thread nD τ) (owing (debts c)) ∅ ∗ Pipeline.launchCred (fun d => owing (debts d)) c ∗ prngReg c (ρ c) ∗ G c))
      ⊢ (bigSep Finset.univ fun c : Dev nD => iprop(bundle m c ∗ semVal (barCell c) 0 ∗ G c) : sProp 𝕄) from bigSep_mono fun c _ => hcore c) $$ H
  ihave H := (Entails.of_eq (bigSep_sep' Finset.univ (fun c : Dev nD => bundle m c) fun c => iprop(semVal (barCell c) 0 ∗ G c))) $$ H
  icases H with ⟨HB, H⟩
  ihave H := (Entails.of_eq (bigSep_sep' Finset.univ (fun c : Dev nD => (semVal (barCell c) 0 : sProp 𝕄)) fun c => G c)) $$ H
  icases H with ⟨Hv, HG⟩
  ihave Hu := (Entails.of_eq (bigSep_G (F := F))) $$ HG
  imod (Rounds.fund_launch ER (sched (sent (I m))) cells_disjoint (fun g _ h => h) (barToks ∪ ownToks)) $$ [Hv Hu] with ⟨%K, -, #Hinv, #Hr, Hat, Hopen, Htok⟩
  · isplitl [Hv]
    · iapply hv $$ Hv
    · iexact Hu
  imodintro
  ihave Htok := (deal (F := F)) $$ Htok
  icases Htok with ⟨Ht1, Ht2⟩
  iapply (bigSep_with_persistent (R := recs (sent (I m)) K) (Φ := fun c => iprop(linear c ∗ bundle m c)) fun c _ => Tin_intro m K c)
  isplitr
  · iapply (recs_intro (sent (I m)) K)
    isplitr
    · iexact Hinv
    iexact Hr
  iapply (Entails.of_eq (bigSep_sep' Finset.univ (fun c : Dev nD => (linear c : sProp 𝕄)) fun c => bundle m c).symm)
  isplitr [HB]
  · iapply hlin
    isplitl [Hat Ht1]
    · isplitl [Hat]
      · iapply hat $$ Hat
      iexact Ht1
    isplitl [Ht2]
    · iexact Ht2
    iapply hopen $$ Hopen
  iexact HB

set_option backward.isDefEq.respectTransparency.types false in
/-- From any memory, with every counter at zero: every weakly fair run of the program on the eight devices ends, the
    arguments unchanged, the result in place, every counter at zero again. -/
theorem run_main : θ_run defs (onTc (τ := τ) (main (F := F))) ⟨m, fun _ => 0, ρ⟩
    (fun r => (∀ c : Dev nD, r.2.mem ((c : Thread nD τ).loc main_v5) = output m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owing (debts c)) (hL := fun g h => if_neg h) (G := G) (u₀ := u₀)
    (hu₀ := by
      unfold u₀
      iintro Hu
      ihave H := (ownU_pair _ _) $$ Hu
      icases H with ⟨HP, HX⟩
      imodintro
      isplitl [HP]
      · iexact HP
      rw [bigSep_G]; iexact HX)
    (T₀ := Tin m) (Tₙ := Tout m)
    (hch := by
      refine ⟨fun c => .rfl, fun c => region_pre m c, fun c => region_post m c, fun c => ?_⟩
      show iprop(StableHlo.held (c : Thread nD τ) allRefs (Vend m c) ∗ Rout c) ⊢ iprop(Tout m c ∗ ∃ W, owes (c : Thread nD τ) (0 : CellTallies nD τ sig Unit) W)
      unfold Rout
      iintro ⟨Hh, Hb, HO⟩
      isplitr [HO]
      · isplitl [Hh] <;> iassumption
      · iexact HO)
    (hinit := init m ρ)
    (QY := fun c s => (s.mem ((c : Thread nD τ).loc main_v5) = output m c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_arg4) = m ((c : Thread nD τ).loc main_arg4)) ∧ s.sem (barCell c) = 0)
    (hfin := fun c s' => by
      dsimp only [Tout]
      rw [refs_list, Vend_v5, Vend_ne m c (b := main_arg0) (by decide) (by decide), Vend_ne m c (b := main_arg1) (by decide) (by decide),
        Vend_ne m c (b := main_arg2) (by decide) (by decide), Vend_ne m c (b := main_arg3) (by decide) (by decide),
        Vend_ne m c (b := main_arg4) (by decide) (by decide), V_main_arg0, V_main_arg1, V_main_arg2, V_main_arg3, V_main_arg4]
      iintro ⟨⟨⟨H0, H1, H2, H3, H4, H5, -⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h5, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => (h c).1, sem_eq_zero hs fun c sm hsm => by
        obtain rfl := unscoped_eq sm hsm
        exact (h c).2⟩)

end Cert.KernelIdeal.Talk

end
-- ==== Proof.Value.Softmax.lean ====
/-
  Sums and exponentials of extended reals: real scores stay real, a softmax that takes the largest score off first is the one
  that does not, and a sum over 1024 keys is a sum over eight blocks of 128.
-/
module

public import Idealize.ShloMosaic.Lib.IdealHost

@[expose] public section

noncomputable section

namespace Cert.Value

open Idealize.ShloMosaic

theorem coe_sum {ι : Type} (s : Finset ι) (g : ι → ℝ) : ((∑ i ∈ s, g i : ℝ) : EReal) = ∑ i ∈ s, (g i : EReal) :=
  map_sum (⟨⟨((↑) : ℝ → EReal), EReal.coe_zero⟩, EReal.coe_add⟩ : ℝ →+ EReal) g s

/-- An extended real that is a real. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

theorem real_of_abs_lt {x : EReal} (h : max x (-x) < ⊤) : IsReal x := by
  induction x with
  | bot => simp at h
  | top => simp at h
  | coe r => exact ⟨r, rfl⟩

/-- A nonnegative real factor comes out of a sum. -/
theorem sum_mul_real {ι : Type} (s : Finset ι) (f : ι → EReal) {c : ℝ} (hc : 0 ≤ c) :
    ∑ i ∈ s, f i * c = (∑ i ∈ s, f i) * c := by
  classical
  induction s using Finset.induction_on with
  | empty => simp
  | insert a s ha ih =>
    rw [Finset.sum_insert ha, Finset.sum_insert ha, ih]
    exact (EReal.right_distrib_of_nonneg_of_ne_top (by exact_mod_cast hc) (EReal.coe_ne_top c) _ _).symm

/-- The largest of finitely many reals, and of at least one, is a real. -/
theorem max_real {ι : Type} [Fintype ι] [Nonempty ι] (s : ι → ℝ) :
    IsReal (max ⊥ (Finset.univ.fold max ⊥ fun j => (s j : EReal))) := by
  rw [bot_sup_eq]
  have e : (Finset.univ.fold max ⊥ fun j => (s j : EReal)) = Finset.univ.sup fun j => (s j : EReal) := rfl
  rw [e]
  obtain ⟨j, -, hj⟩ := Finset.exists_mem_eq_sup Finset.univ Finset.univ_nonempty fun j => (s j : EReal)
  exact ⟨s j, hj⟩

/-- A softmax in which every score is lowered by the same real is the softmax of the scores. -/
theorem softmax {ι : Type} [Fintype ι] [Nonempty ι] (s : ι → ℝ) (v : ι → EReal) (t a a' : EReal) (ht : IsReal t) :
    Ideal.div (0 * a + ∑ j, v j * Ideal.exp (s j - t)) (0 * a' + ∑ j, Ideal.exp (s j - t))
      = (∑ j, v j * Ideal.exp (s j)) * Ideal.div 1 (∑ j, Ideal.exp (s j)) := by
  obtain ⟨u, rfl⟩ := ht
  have pos : 0 < ∑ j, Real.exp (s j) := Finset.sum_pos (fun j _ => Real.exp_pos _) Finset.univ_nonempty
  have hu := Real.exp_pos (-u)
  have e (j : ι) : Ideal.exp ((s j : EReal) - u) = (Real.exp (s j) : EReal) * (Real.exp (-u) : ℝ) := by
    rw [← EReal.coe_sub, Ideal.exp_coe, sub_eq_add_neg, Real.exp_add, EReal.coe_mul]
  have en : ∑ j, v j * Ideal.exp ((s j : EReal) - u) = (∑ j, v j * (Real.exp (s j) : EReal)) * (Real.exp (-u) : ℝ) := by
    rw [← sum_mul_real _ _ hu.le]
    exact Finset.sum_congr rfl fun j _ => by rw [e, mul_assoc]
  have ed : ∑ j, Ideal.exp ((s j : EReal) - u) = ((∑ j, Real.exp (s j)) * Real.exp (-u) : ℝ) := by
    rw [EReal.coe_mul, coe_sum, ← sum_mul_real _ _ hu.le]
    exact Finset.sum_congr rfl fun j _ => e j
  have el : ∑ j, Ideal.exp (s j : EReal) = (∑ j, Real.exp (s j) : ℝ) := by
    rw [coe_sum]
    rfl
  rw [zero_mul, zero_mul, zero_add, zero_add, en, ed, el, Ideal.div_coe (mul_pos pos hu).ne', Ideal.div_coe pos.ne', one_mul, mul_assoc,
    ← EReal.coe_mul]
  have : Real.exp (-u) * (1 / ((∑ j, Real.exp (s j)) * Real.exp (-u))) = 1 / ∑ j, Real.exp (s j) := by
    field_simp
  rw [this]
  rfl

/-- A sum over the keys, device by device. -/
theorem sum_keys (f : Fin 1024 → EReal) :
    ∑ e : Fin 8, ∑ j : Fin 128, f ⟨e.val * 128 + j.val, by omega⟩ = ∑ j : Fin 1024, f j := by
  rw [← Fintype.sum_prod_type' fun (e : Fin 8) (j : Fin 128) => f ⟨e.val * 128 + j.val, by omega⟩]
  refine Fintype.sum_equiv (finProdFinEquiv (m := 8) (n := 128)) _ _ fun p => congrArg f (Fin.ext ?_)
  show p.1.val * 128 + p.2.val = p.2.val + 128 * p.1.val
  omega

/-- The scale of the scores is a nonnegative real. -/
theorem scale_real : Ideal.ofBits .f32 0x3E000000#32 = ((1 / 8 : ℝ) : EReal) := by
  simp [Ideal.ofBits, Ideal.ieee, -EReal.coe_mul]
  norm_num

theorem bottom_eq : Ideal.ofBits .f32 0xFF800000#32 = ⊥ := by
  simp [Ideal.ofBits, Ideal.ieee]

theorem top_eq : Ideal.ofBits .f32 0x7F800000#32 = ⊤ := by
  simp [Ideal.ofBits, Ideal.ieee]

/-- Scaling the queries scales the scores. -/
theorem scale_scores (k q : Fin 64 → EReal) :
    ∑ d, k d * (q d * Ideal.ofBits .f32 0x3E000000#32) = (∑ d, q d * k d) * Ideal.ofBits .f32 0x3E000000#32 := by
  rw [scale_real, ← sum_mul_real _ _ (by norm_num)]
  exact Finset.sum_congr rfl fun d _ => by rw [← mul_assoc, mul_comm (k d)]

end Cert.Value

end
-- ==== Proof.Value.Reference.lean ====
/-
  What the reference computes, read at an index over the extended reals: projected queries, scaled scores, a softmax in one
  step that takes the largest score off first, and the output projection.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Value.Reference

open Idealize.ShloMosaic Cert.ReferenceIdeal Cert.ReferenceIdeal.Gen Cert.ReferenceIdeal.Facts

/-- The scaled scores, `[batch, head, query, key]`. -/
def scores (x : FVec Ideal S2x128x512 .f32) (w : FVec Ideal S512x512 .f32) (k : FVec Ideal S2x1024x8x64 .f32) : FVec Ideal S2x8x128x1024 .f32 :=
  mulf (Host.dotGeneral dot_S2x128x8x64_S2x1024x8x64_S2x8x128x1024_3_3_1_1_02_02 none
    (shapeCast S2x128x8x64 (Host.dotGeneral dot_S2x128x512_S512x512_S2x128x512_2_0_01_1_n_n none x w) shapeCasts_S2x128x512_S2x128x8x64) k)
    (broadcastInDim S2x8x128x1024 ![] bcast_S_S2x8x128x1024 (constant S_ .f32 0x3E000000#32))

/-- The largest score of a query. -/
def top (s : FVec Ideal S2x8x128x1024 .f32) : FVec Ideal S2x8x128x1 .f32 :=
  maximumf (broadcastInDim S2x8x128x1 ![] bcast_S_S2x8x128x1 (constant S_ .f32 0xFF800000#32))
    (broadcastInDim S2x8x128x1 ![0, 1, 2] bcast_S2x8x128_S2x8x128x1_0_1_2
      (Host.reduce FloatOps.maximumf s (constant S_ .f32 0xFF800000#32) reducesTo_S2x8x128x1024_S2x8x128_d3 h_S_))

/-- The exponentials of the scores less the largest. -/
def weights (s : FVec Ideal S2x8x128x1024 .f32) (t : FVec Ideal S2x8x128x1 .f32) : FVec Ideal S2x8x128x1024 .f32 :=
  Host.exp (subf s (broadcastInDim S2x8x128x1024 ![0, 1, 2, 3] bcast_S2x8x128x1_S2x8x128x1024_0_1_2_3 t))

/-- What the outputs and sums of before the step are scaled by. -/
def rescale (t : FVec Ideal S2x8x128x1 .f32) : FVec Ideal S2x8x128x1 .f32 :=
  Host.exp (subf (broadcastInDim S2x8x128x1 ![] bcast_S_S2x8x128x1 (constant S_ .f32 0xFF800000#32)) t)

/-- The outputs before normalisation, `[batch, query, head, coordinate]`. -/
def outs (a : FVec Ideal S2x8x128x1 .f32) (p : FVec Ideal S2x8x128x1024 .f32) (v : FVec Ideal S2x1024x8x64 .f32) : FVec Ideal S2x128x8x64 .f32 :=
  addf (mulf (broadcastInDim S2x128x8x64 ![] bcast_S_S2x128x8x64 (constant S_ .f32 0x00000000#32))
      (broadcastInDim S2x128x8x64 ![0, 1, 2, 3] bcast_S2x128x8x1_S2x128x8x64_0_1_2_3
        (transpose S2x128x8x1 [0, 2, 1, 3] a transposes_S2x8x128x1_S2x128x8x1_0_2_1_3)))
    (transpose S2x128x8x64 [0, 3, 1, 2] (Host.dotGeneral dot_S2x1024x8x64_S2x8x128x1024_S2x8x64x128_1_3_3_2_02_01 none v p)
      transposes_S2x8x64x128_S2x128x8x64_0_3_1_2)

/-- The sums of the weights, `[batch, head, query]`. -/
def sums (a : FVec Ideal S2x8x128x1 .f32) (p : FVec Ideal S2x8x128x1024 .f32) : FVec Ideal S2x8x128x1 .f32 :=
  addf (mulf (broadcastInDim S2x8x128x1 ![] bcast_S_S2x8x128x1 (constant S_ .f32 0x00000000#32)) a)
    (broadcastInDim S2x8x128x1 ![0, 1, 2] bcast_S2x8x128_S2x8x128x1_0_1_2
      (Host.reduceAdd p (constant S_ .f32 0x00000000#32) reducesTo_S2x8x128x1024_S2x8x128_d3 h_S_))

/-- The normalised outputs through the output projection. -/
def final (o : FVec Ideal S2x128x8x64 .f32) (l : FVec Ideal S2x8x128x1 .f32) (wo : FVec Ideal S512x512 .f32) : FVec Ideal S2x128x512 .f32 :=
  Host.dotGeneral dot_S2x128x512_S512x512_S2x128x512_2_0_01_1_n_n none
    (shapeCast S2x128x512 (Host.divf o (broadcastInDim S2x128x8x64 ![0, 1, 2, 3] bcast_S2x128x8x1_S2x128x8x64_0_1_2_3
      (transpose S2x128x8x1 [0, 2, 1, 3] l transposes_S2x8x128x1_S2x128x8x1_0_2_1_3))) shapeCasts_S2x128x8x64_S2x128x512) wo

def attention (x : FVec Ideal S2x128x512 .f32) (w : FVec Ideal S512x512 .f32) (k v : FVec Ideal S2x1024x8x64 .f32)
    (wo : FVec Ideal S512x512 .f32) : FVec Ideal S2x128x512 .f32 :=
  final (outs (rescale (top (scores x w k))) (weights (scores x w k) (top (scores x w k))) v)
    (sums (rescale (top (scores x w k))) (weights (scores x w k) (top (scores x w k)))) wo

/-- The reference's result is `attention` of its arguments. -/
theorem reference_result (m : (ℓ : Loc nD τ sig) → Buf (Elt Ideal) ℓ) (c : Dev nD) :
    Cert.ReferenceIdeal.Value.res_main_v30 m c
      = attention (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v30 attention final sums outs rescale weights top scores
  rfl

theorem scores_at (x : FVec Ideal S2x128x512 .f32) (w : FVec Ideal S512x512 .f32) (k : FVec Ideal S2x1024x8x64 .f32)
    (b : Fin 2) (h : Fin 8) (i : Fin 128) (j : Fin 1024) :
    scores x w k (ix4 b h i j) = (∑ d : Fin 64, (∑ e : Fin 512, x (ix3 b i e) * w (ix2 e ⟨h.val * 64 + d.val, by omega⟩)) * k (ix4 b j h d))
      * Ideal.ofBits .f32 0x3E000000#32 := by
  unfold scores
  pointwise []

theorem top_at (s : FVec Ideal S2x8x128x1024 .f32) (b : Fin 2) (h : Fin 8) (i : Fin 128) :
    top s (ix4 b h i 0) = max (Ideal.ofBits .f32 0xFF800000#32)
      (Finset.univ.fold max (Ideal.ofBits .f32 0xFF800000#32) fun j : Fin 1024 => s (ix4 b h i j)) := by
  unfold top
  pointwise []

theorem weights_at (s : FVec Ideal S2x8x128x1024 .f32) (t : FVec Ideal S2x8x128x1 .f32) (b : Fin 2) (h : Fin 8) (i : Fin 128) (j : Fin 1024) :
    weights s t (ix4 b h i j) = Ideal.exp (s (ix4 b h i j) - t (ix4 b h i 0)) := by
  unfold weights
  pointwise []

theorem rescale_at (t : FVec Ideal S2x8x128x1 .f32) (b : Fin 2) (h : Fin 8) (i : Fin 128) :
    rescale t (ix4 b h i 0) = Ideal.exp (Ideal.ofBits .f32 0xFF800000#32 - t (ix4 b h i 0)) := by
  unfold rescale
  pointwise []

theorem outs_at (a : FVec Ideal S2x8x128x1 .f32) (p : FVec Ideal S2x8x128x1024 .f32) (v : FVec Ideal S2x1024x8x64 .f32)
    (b : Fin 2) (h : Fin 8) (i : Fin 128) (d : Fin 64) :
    outs a p v (ix4 b i h d) = 0 * a (ix4 b h i 0) + ∑ j : Fin 1024, v (ix4 b j h d) * p (ix4 b h i j) := by
  unfold outs
  pointwise []

theorem sums_at (a : FVec Ideal S2x8x128x1 .f32) (p : FVec Ideal S2x8x128x1024 .f32) (b : Fin 2) (h : Fin 8) (i : Fin 128) :
    sums a p (ix4 b h i 0) = 0 * a (ix4 b h i 0) + ∑ j : Fin 1024, p (ix4 b h i j) := by
  unfold sums
  pointwise []

theorem final_at (o : FVec Ideal S2x128x8x64 .f32) (l : FVec Ideal S2x8x128x1 .f32) (wo : FVec Ideal S512x512 .f32)
    (b : Fin 2) (i : Fin 128) (f : Fin 512) :
    final o l wo (ix3 b i f) = ∑ r : Fin 512, Ideal.div (o (ix4 b i ⟨r.val / 64, by omega⟩ ⟨r.val % 64, by omega⟩))
      (l (ix4 b ⟨r.val / 64, by omega⟩ i 0)) * wo (ix2 r f) := by
  unfold final
  pointwise []

end Cert.Value.Reference

end
-- ==== Proof.Value.Attention.lean ====
/-
  The mathematics of the problem, entry by entry: the attention of every query over the keys of all devices, the scores
  exponentiated without a shift, through the output projection. And the shift of the reference, taken off.
-/
module

public import proofs.«01_k».proof.Proof.Value.Softmax
public import proofs.«01_k».proof.Proof.Value.Reference

@[expose] public section

set_option maxRecDepth 16384

noncomputable section

namespace Cert.Value

open Idealize.ShloMosaic Cert.ReferenceIdeal

variable (x : FVec Ideal S2x128x512 .f32) (w : FVec Ideal S512x512 .f32) (k v : FVec Ideal S2x1024x8x64 .f32) (wo : FVec Ideal S512x512 .f32)

/-- Column `64 h + d`: coordinate `d` of head `h`. -/
abbrev col (h : Fin 8) (d : Fin 64) : Fin 512 := ⟨64 * h.val + d.val, by omega⟩

/-- The head and the coordinate of a column. -/
abbrev headOf (r : Fin 512) : Fin 8 := ⟨r.val / 64, by omega⟩
abbrev coordOf (r : Fin 512) : Fin 64 := ⟨r.val % 64, by omega⟩

theorem headOf_col (h : Fin 8) (d : Fin 64) : headOf (col h d) = h := Fin.ext (by show (64 * h.val + d.val) / 64 = h.val; omega)
theorem coordOf_col (h : Fin 8) (d : Fin 64) : coordOf (col h d) = d := Fin.ext (by show (64 * h.val + d.val) % 64 = d.val; omega)

/-- The projected query. -/
def query (b : Fin 2) (i : Fin 128) (r : Fin 512) : EReal := ∑ e : Fin 512, x (ix3 b i e) * w (ix2 e r)

/-- The scaled score of a query and a key. -/
def score (b : Fin 2) (h : Fin 8) (i : Fin 128) (j : Fin 1024) : EReal :=
  (∑ d : Fin 64, query x w b i (col h d) * k (ix4 b j h d)) * Ideal.ofBits .f32 0x3E000000#32

/-- The sum of a query's exponentials. -/
def total (b : Fin 2) (h : Fin 8) (i : Fin 128) : EReal := ∑ j : Fin 1024, Ideal.exp (score x w k b h i j)

/-- A query's values weighted by the exponentials. -/
def weighted (b : Fin 2) (i : Fin 128) (r : Fin 512) : EReal :=
  ∑ j : Fin 1024, v (ix4 b j (headOf r) (coordOf r)) * Ideal.exp (score x w k b (headOf r) i j)

/-- The result. -/
def answer (b : Fin 2) (i : Fin 128) (f : Fin 512) : EReal :=
  ∑ r : Fin 512, (weighted x w k v b i r * Ideal.div 1 (total x w k b (headOf r) i)) * wo (ix2 r f)

variable {x w k}

/-- The score of real inputs, weights and keys is a real. -/
theorem score_real (hx : ∀ y, IsReal (x y)) (hw : ∀ y, IsReal (w y)) (hk : ∀ y, IsReal (k y)) (b : Fin 2) (h : Fin 8) (i : Fin 128)
    (j : Fin 1024) : IsReal (score x w k b h i j) :=
  (IsReal.sum _ _ fun _ => (IsReal.sum _ _ fun _ => (hx _).mul (hw _)).mul (hk _)).mul ⟨_, scale_real⟩

theorem scores_eq (b : Fin 2) (h : Fin 8) (i : Fin 128) (j : Fin 1024) :
    Reference.scores x w k (ix4 b h i j) = score x w k b h i j := by
  have e (d : Fin 64) : (⟨h.val * 64 + d.val, by omega⟩ : Fin 512) = col h d := Fin.ext (by show h.val * 64 + d.val = 64 * h.val + d.val; omega)
  rw [Reference.scores_at]
  simp only [e]
  rfl

/-- The reference computes the result, where the inputs, the query weights and the keys are reals. -/
theorem attention_at (hx : ∀ y, IsReal (x y)) (hw : ∀ y, IsReal (w y)) (hk : ∀ y, IsReal (k y)) (b : Fin 2) (i : Fin 128) (f : Fin 512) :
    Reference.attention x w k v wo (ix3 b i f) = answer x w k v wo b i f := by
  unfold Reference.attention
  rw [Reference.final_at]
  refine Finset.sum_congr rfl fun r _ => congrArg (· * wo (ix2 r f)) ?_
  choose s hs using fun j => score_real hx hw hk b (headOf r) i j
  have ht : IsReal (Reference.top (Reference.scores x w k) (ix4 b (headOf r) i 0)) := by
    rw [Reference.top_at, bottom_eq]
    simp only [scores_eq, hs]
    exact max_real s
  rw [Reference.outs_at, Reference.sums_at]
  simp only [Reference.weights_at, scores_eq]
  unfold weighted total
  simp only [hs]
  exact softmax s _ _ _ _ ht

end Cert.Value

end
-- ==== Proof.Value.Blocks.lean ====
/-
  The kernel's blocks read at an index, over the extended reals: the exponentials of the scores, the outputs and sums of one
  device, and the projection of the whole share.
-/
module

public import proofs.«01_k».proof.Proof.KernelIdeal.Contents
public import proofs.«01_k».proof.Proof.Value.Attention

@[expose] public section

set_option maxRecDepth 16384

noncomputable section

namespace Cert.Value

open Idealize.ShloMosaic Cert.KernelIdeal Cert.KernelIdeal.Gen Cert.KernelIdeal.Talk

/-- Row `128 b + i`: row `i` of batch `b`. -/
abbrev row (b : Fin 2) (i : Fin 128) : Fin 256 := ⟨128 * b.val + i.val, by omega⟩

theorem probs_at (b : Fin 2) (h : Fin 8) (q : FVec Ideal S256x512 .f32) (k : FVec Ideal S128x512 .f32) (j i : Fin 128) :
    probs b h q k (ix2 j i) = Ideal.exp (∑ d : Fin 64, k (ix2 j (col h d)) * q (ix2 (row b i) (col h d))) := by
  unfold probs
  pointwise []

theorem num_at (b : Fin 2) (h : Fin 8) (q : FVec Ideal S256x512 .f32) (k v : FVec Ideal S128x512 .f32) (d : Fin 64) (i : Fin 128) :
    num b h q k v (ix2 d i) = ∑ j : Fin 128, v (ix2 j (col h d)) * probs b h q k (ix2 j i) := by
  unfold num
  pointwise []

theorem den_at (b : Fin 2) (h : Fin 8) (q : FVec Ideal S256x512 .f32) (k : FVec Ideal S128x512 .f32) (i : Fin 128) :
    den b h q k (ix2 0 i) = ∑ j : Fin 128, probs b h q k (ix2 j i) := by
  unfold den
  pointwise []

theorem query_at (x : FVec Ideal S256x512 .f32) (w : FVec Ideal S512x512 .f32) (r : Fin 256) (f : Fin 512) :
    k0_pay1 x w (ix2 r f) = (∑ e : Fin 512, x (ix2 r e) * w (ix2 e f)) * Ideal.ofBits .f32 0x3E000000#32 := by
  unfold k0_pay1
  pointwise []

theorem project_at (a : FVec Ideal S528x128 .f32) (wo : FVec Ideal S512x512 .f32) (i : Fin 128) (f : Fin 512) :
    project a wo (ix2 i f) = ∑ r : Fin 512, (upper a (ix2 r i) * Ideal.div 1 (lower a (ix2 ⟨r.val / 64, by omega⟩ i))) * wo (ix2 r f) := by
  unfold project
  pointwise []

theorem acc_sum (I : Dev nD → Ins Ideal) (b : Fin 2) (c : Dev nD) (y : S528x128.Idx) :
    acc I 3 b c y = ∑ e : Dev nD, acc I 0 b e y := by
  have hs (n : ℕ) (c : Dev nD) : acc I (n + 1) b c y = acc I n b c y + acc I n b (peer (stepAt n) c) y := rfl
  have ho : ∀ c : Dev nD, List.Perm
      [c, peer (stepAt 0) c, peer (stepAt 1) c, peer (stepAt 0) (peer (stepAt 1) c), peer (stepAt 2) c,
        peer (stepAt 0) (peer (stepAt 2) c), peer (stepAt 1) (peer (stepAt 2) c),
        peer (stepAt 0) (peer (stepAt 1) (peer (stepAt 2) c))] (List.finRange 8) := by decide
  have hp := ((ho c).map fun e => acc I 0 b e y).sum_eq
  rw [hs 2, hs 1, hs 1, hs 0, hs 0, hs 0, hs 0, Fin.sum_univ_def, ← hp]
  simp only [List.map_cons, List.map_nil, List.sum_cons, List.sum_nil, add_zero, add_assoc]

/-- The entry of the share that holds coordinate `d` of head `h`. -/
theorem share_out (b : Fin 2) (q : FVec Ideal S256x512 .f32) (k v : FVec Ideal S128x512 .f32) (r : Fin 512) (i : Fin 128) :
    share b q k v (ix2 ⟨r.val, by omega⟩ i)
      = ∑ j : Fin 128, v (ix2 j r) * probs b ⟨r.val / 64, by omega⟩ q k (ix2 j i) := by
  have e : share b q k v (ix2 ⟨r.val, by omega⟩ i) = num b ⟨r.val / 64, by omega⟩ q k v (ix2 ⟨r.val % 64, by omega⟩ i) :=
    dif_pos r.isLt
  rw [e, num_at]
  have hc : col ⟨r.val / 64, by omega⟩ ⟨r.val % 64, by omega⟩ = r := Fin.ext (Nat.div_add_mod _ _)
  rw [hc]

/-- The entry of the share that holds the sum of head `h`. -/
theorem share_sum (b : Fin 2) (q : FVec Ideal S256x512 .f32) (k v : FVec Ideal S128x512 .f32) (h : Fin 8) (i : Fin 128) :
    share b q k v (ix2 ⟨512 + h.val, by omega⟩ i) = ∑ j : Fin 128, probs b h q k (ix2 j i) := by
  have e : share b q k v (ix2 ⟨512 + h.val, by omega⟩ i) = den b ⟨512 + h.val - 512, by omega⟩ q k (ix2 0 i) := by
    refine (dif_neg (show ¬ 512 + h.val < 512 by omega)).trans (dif_pos (show 512 + h.val < 520 by omega))
  have eh : (⟨512 + h.val - 512, by omega⟩ : Fin 8) = h := Fin.ext (Nat.add_sub_cancel_left _ _)
  rw [e, eh, den_at]

theorem unit_at (y : FVec Ideal S1x128x512 .f32) (j : Fin 128) (f : Fin 512) :
    shapeCast S128x512 y shapeCasts_S1x128x512_S128x512 (ix2 j f) = y (ix3 0 j f) := by
  pointwise []

/-- One batch of a block of keys or values. -/
theorem batch_at (b : Fin 2) (k : FVec Ideal S2x128x512 .f32) (j : Fin 128) (f : Fin 512) :
    batch b k (ix2 j f) = k (ix3 b j f) := by
  refine (unit_at _ j f).trans (congrArg k (funext fun a => Fin.ext ?_))
  match a with
  | 0 => show b.val + 1 * 0 = b.val; omega
  | 1 => show 0 + 1 * j.val = j.val; omega
  | 2 => show 0 + 1 * f.val = f.val; omega

/-- The result read with its batches apart. -/
theorem flat_at (y : FVec Ideal S256x512 .f32) (b : Fin 2) (i : Fin 128) (f : Fin 512) :
    shapeCast S2x128x512 y shapeCasts_S256x512_S2x128x512 (ix3 b i f) = y (ix2 (row b i) f) := by
  have e : row b i = ⟨b.val * 128 + i.val, by omega⟩ :=
    Fin.ext (by show 128 * b.val + i.val = b.val * 128 + i.val; omega)
  rw [e]
  pointwise []

/-- The keys and values read with their heads side by side. -/
theorem keys_at (k : FVec Ideal S2x128x8x64 .f32) (b : Fin 2) (j : Fin 128) (r : Fin 512) :
    shapeCast S2x128x512 k shapeCasts_S2x128x8x64_S2x128x512 (ix3 b j r)
      = k (ix4 b j ⟨r.val / 64, by omega⟩ ⟨r.val % 64, by omega⟩) := by
  pointwise []

/-- The inputs read with their batches one after the other. -/
theorem rows_at (x : FVec Ideal S2x128x512 .f32) (r : Fin 256) (f : Fin 512) :
    shapeCast S256x512 x shapeCasts_S2x128x512_S256x512 (ix2 r f) = x (ix3 ⟨r.val / 128, by omega⟩ ⟨r.val % 128, by omega⟩ f) := by
  pointwise []

theorem result_at (I : Dev nD → Ins Ideal) (c : Dev nD) (b : Fin 2) (i : Fin 128) (f : Fin 512) :
    result I c (ix2 (row b i) f) = project (acc I 3 b c) (I c).wo (ix2 i f) := by
  have eb : (⟨(128 * b.val + i.val) / 128, by omega⟩ : Fin 2) = b := Fin.ext (by show (128 * b.val + i.val) / 128 = b.val; omega)
  have ei : (⟨(128 * b.val + i.val) % 128, by omega⟩ : Fin 128) = i := Fin.ext (by show (128 * b.val + i.val) % 128 = i.val; omega)
  show project (acc I 3 ⟨(128 * b.val + i.val) / 128, _⟩ c) (I c).wo (ix2 ⟨(128 * b.val + i.val) % 128, _⟩ f) = _
  rw [eb, ei]

end Cert.Value

end
-- ==== Proof.Value.Kernel.lean ====
/-
  What the kernel leaves, entry by entry: every device holds the result over the keys of all devices.
-/
module

public import proofs.«01_k».proof.Proof.Value.Attention
public import proofs.«01_k».proof.Proof.Value.Blocks
public import proofs.«01_k».proof.Proof.KernelIdeal.Region
public import Idealize.ShloMosaic.Lib.LayoutAt

@[expose] public section

set_option maxRecDepth 16384

noncomputable section

namespace Cert.Value

open Idealize.ShloMosaic Idealize.ShloMosaic.TcCoe Cert.KernelIdeal Cert.KernelIdeal.Gen Cert.KernelIdeal.Talk
open Cert.ReferenceIdeal (S2x1024x8x64)

/-- A device's keys or values among those of all devices. -/
theorem block_at (k : FVec Ideal S2x1024x8x64 .f32) (c : Fin 8) (b : Fin 2) (j : Fin 128) (h : Fin 8) (d : Fin 64) :
    Layout.block S2x128x8x64 S2x1024x8x64 1 8 c k (by decide) (ix4 b j h d) = k (ix4 b ⟨c.val * 128 + j.val, by omega⟩ h d) := by
  rw [Layout.block_apply]
  refine congrArg k (funext fun a => Fin.ext ?_)
  match a with
  | 0 => exact Layout.Tiles.idx_val_of_ne _ _ _ _ (by decide)
  | 1 => exact Layout.Tiles.idx_val_self _ _ _ _ rfl
  | 2 => exact Layout.Tiles.idx_val_of_ne _ _ _ _ (by decide)
  | 3 => exact Layout.Tiles.idx_val_of_ne _ _ _ _ (by decide)

/-- An array of all devices is real where every device's block of it is. -/
theorem real_of_blocks (k : FVec Ideal S2x1024x8x64 .f32)
    (hk : ∀ (c : Fin 8) (y : S2x128x8x64.Idx), IsReal (Layout.block S2x128x8x64 S2x1024x8x64 1 8 c k (by decide) y))
    (y : S2x1024x8x64.Idx) : IsReal (k y) := by
  obtain ⟨b, j, h, d, rfl⟩ : ∃ (b : Fin 2) (j : Fin 1024) (h : Fin 8) (d : Fin 64), y = ix4 b j h d := ⟨_, _, _, _, eq_ix4 y⟩
  have hr := hk ⟨j.val / 128, by omega⟩ (ix4 b ⟨j.val % 128, by omega⟩ h d)
  have e : (⟨j.val / 128 * 128 + j.val % 128, by omega⟩ : Fin 1024) = j := Fin.ext (Nat.div_add_mod' _ _)
  rw [block_at, e] at hr
  exact hr

/-- What device `c` reads, from arrays of all devices. -/
structure Reads (I : Dev nD → Ins Ideal) (x : FVec Ideal S2x128x512 .f32) (w : FVec Ideal S512x512 .f32)
    (k v : FVec Ideal S2x1024x8x64 .f32) (wo : FVec Ideal S512x512 .f32) : Prop where
  x (c : Dev nD) : (I c).x = shapeCast S256x512 x shapeCasts_S2x128x512_S256x512
  wq (c : Dev nD) : (I c).wq = w
  wo (c : Dev nD) : (I c).wo = wo
  k (c : Dev nD) : (I c).k = shapeCast S2x128x512 (Layout.block S2x128x8x64 S2x1024x8x64 1 8 c k (by decide)) shapeCasts_S2x128x8x64_S2x128x512
  v (c : Dev nD) : (I c).v = shapeCast S2x128x512 (Layout.block S2x128x8x64 S2x1024x8x64 1 8 c v (by decide)) shapeCasts_S2x128x8x64_S2x128x512

variable {I : Dev nD → Ins Ideal} {x : FVec Ideal S2x128x512 .f32} {w : FVec Ideal S512x512 .f32}
    {k v : FVec Ideal S2x1024x8x64 .f32} {wo : FVec Ideal S512x512 .f32}

theorem query_eq (hI : Reads I x w k v wo) (c : Dev nD) (b : Fin 2) (i : Fin 128) (r : Fin 512) :
    k0_pay1 (I c).x (I c).wq (ix2 (row b i) r) = query x w b i r * Ideal.ofBits .f32 0x3E000000#32 := by
  have eb : (⟨(row b i).val / 128, by omega⟩ : Fin 2) = b := Fin.ext (by show (128 * b.val + i.val) / 128 = b.val; omega)
  have ei : (⟨(row b i).val % 128, by omega⟩ : Fin 128) = i := Fin.ext (by show (128 * b.val + i.val) % 128 = i.val; omega)
  rw [query_at, hI.x, hI.wq]
  simp only [rows_at]
  rw [eb, ei]
  rfl

theorem key_eq (hI : Reads I x w k v wo) (c : Dev nD) (b : Fin 2) (j : Fin 128) (r : Fin 512) :
    batch b (I c).k (ix2 j r) = k (ix4 b ⟨c.val * 128 + j.val, by have : c.val < 8 := c.isLt; omega⟩ (headOf r) (coordOf r)) := by
  rw [batch_at, hI.k, keys_at, block_at]

theorem value_eq (hI : Reads I x w k v wo) (c : Dev nD) (b : Fin 2) (j : Fin 128) (r : Fin 512) :
    batch b (I c).v (ix2 j r) = v (ix4 b ⟨c.val * 128 + j.val, by have : c.val < 8 := c.isLt; omega⟩ (headOf r) (coordOf r)) := by
  rw [batch_at, hI.v, keys_at, block_at]

theorem probs_eq (hI : Reads I x w k v wo) (c : Dev nD) (b : Fin 2) (h : Fin 8) (j i : Fin 128) :
    probs b h (k0_pay1 (I c).x (I c).wq) (batch b (I c).k) (ix2 j i)
      = Ideal.exp (score x w k b h i ⟨c.val * 128 + j.val, by have : c.val < 8 := c.isLt; omega⟩) := by
  rw [probs_at]
  refine congrArg Ideal.exp ?_
  simp only [key_eq hI, query_eq hI, headOf_col, coordOf_col]
  exact scale_scores _ _

/-- The whole share: the weighted values, -/
theorem whole_out (hI : Reads I x w k v wo) (c : Dev nD) (b : Fin 2) (r : Fin 512) (i : Fin 128) :
    acc I 3 b c (ix2 ⟨r.val, by omega⟩ i) = weighted x w k v b i r := by
  rw [acc_sum]
  refine (Finset.sum_congr rfl fun e _ => ?_).trans
    (sum_keys fun j => v (ix4 b j (headOf r) (coordOf r)) * Ideal.exp (score x w k b (headOf r) i j))
  refine (share_out b _ _ _ r i).trans (Finset.sum_congr rfl fun j _ => ?_)
  rw [value_eq hI, probs_eq hI]

/-- and the sums of the exponentials. -/
theorem whole_sum (hI : Reads I x w k v wo) (c : Dev nD) (b : Fin 2) (h : Fin 8) (i : Fin 128) :
    acc I 3 b c (ix2 ⟨512 + h.val, by omega⟩ i) = total x w k b h i := by
  rw [acc_sum]
  refine (Finset.sum_congr rfl fun e _ => ?_).trans (sum_keys fun j => Ideal.exp (score x w k b h i j))
  refine (share_sum b _ _ _ h i).trans (Finset.sum_congr rfl fun j _ => ?_)
  rw [probs_eq hI]

theorem result_eq (hI : Reads I x w k v wo) (c : Dev nD) (b : Fin 2) (i : Fin 128) (f : Fin 512) :
    shapeCast S2x128x512 (result I c) shapeCasts_S256x512_S2x128x512 (ix3 b i f) = answer x w k v wo b i f := by
  rw [flat_at, result_at, project_at, hI.wo]
  refine Finset.sum_congr rfl fun r _ => congrArg (· * wo (ix2 r f)) (congrArg₂ (fun a t => a * Ideal.div 1 t) ?_ ?_)
  · exact whole_out hI c b r i
  · exact whole_sum hI c b (headOf r) i

variable (m : (ℓ : Loc nD τ sig) → Buf (Elt Ideal) ℓ)

theorem V_v1 (c : Dev nD) : V m c main_v1 = shapeCast S256x512 (m ((c : Thread nD τ).loc main_arg0)) shapeCasts_S2x128x512_S256x512 := by
  show StableHlo.after hostOps0 _ (Proc.devRef .tc main_v1) = _
  rw [StableHlo.after_cons, StableHlo.after_cons, StableHlo.after_cons, StableHlo.after_nil,
    StableHlo.reshape_result_ne _ _ _ _ _, StableHlo.reshape_result_ne _ _ _ _ _, StableHlo.reshape_result']
  · rfl
  all_goals decide

theorem V_v2 (c : Dev nD) : V m c main_v2 = shapeCast S2x128x512 (m ((c : Thread nD τ).loc main_arg2)) shapeCasts_S2x128x8x64_S2x128x512 := by
  show StableHlo.after hostOps0 _ (Proc.devRef .tc main_v2) = _
  rw [StableHlo.after_cons, StableHlo.after_cons, StableHlo.after_cons, StableHlo.after_nil,
    StableHlo.reshape_result_ne _ _ _ _ _, StableHlo.reshape_result', StableHlo.reshape_result_ne _ _ _ _ _]
  · rfl
  all_goals decide

theorem V_v3 (c : Dev nD) : V m c main_v3 = shapeCast S2x128x512 (m ((c : Thread nD τ).loc main_arg3)) shapeCasts_S2x128x8x64_S2x128x512 := by
  show StableHlo.after hostOps0 _ (Proc.devRef .tc main_v3) = _
  rw [StableHlo.after_cons, StableHlo.after_cons, StableHlo.after_cons, StableHlo.after_nil,
    StableHlo.reshape_result', StableHlo.reshape_result_ne _ _ _ _ _, StableHlo.reshape_result_ne _ _ _ _ _]
  · rfl
  all_goals decide

/-- Every device's result, from arguments that are its blocks of the arrays of all devices. -/
theorem output_at {x : FVec Ideal S2x128x512 .f32} {w : FVec Ideal S512x512 .f32} {k v : FVec Ideal S2x1024x8x64 .f32}
    {wo : FVec Ideal S512x512 .f32}
    (h : ∀ c : Dev nD, m ((c : Thread nD τ).loc main_arg0) = x ∧ m ((c : Thread nD τ).loc main_arg1) = w
      ∧ m ((c : Thread nD τ).loc main_arg2) = Layout.block S2x128x8x64 S2x1024x8x64 1 8 c k (by decide)
      ∧ m ((c : Thread nD τ).loc main_arg3) = Layout.block S2x128x8x64 S2x1024x8x64 1 8 c v (by decide)
      ∧ m ((c : Thread nD τ).loc main_arg4) = wo) (c : Dev nD) (b : Fin 2) (i : Fin 128) (f : Fin 512) :
    output m c (ix3 b i f) = answer x w k v wo b i f :=
  result_eq (I := Talk.I m)
    ⟨fun c => (V_v1 m c).trans (by rw [(h c).1]), fun c => (V_main_arg1 m c).trans (h c).2.1,
      fun c => (V_main_arg4 m c).trans (h c).2.2.2.2, fun c => (V_v2 m c).trans (by rw [(h c).2.2.1]),
      fun c => (V_v3 m c).trans (by rw [(h c).2.2.2.1])⟩ c b i f

end Cert.Value

end
-- ==== Proof.Value.Finite.lean ====
/-
  The precondition read back: where it holds, every entry of the inputs, of the query weights and of the keys is a real.
-/
module

public import proofs.«01_k».proof.Proof.Value.Softmax
public import proofs.«01_k».proof.Defs
public import Idealize.ShloMosaic.Lib.ReduceAll

@[expose] public section

set_option maxRecDepth 16384

noncomputable section

namespace Cert.Value

open Idealize.ShloMosaic

theorem kernel_pre_facts : Cert.Pre_finite_KernelIdeal.Facts := by
  constructor <;> decide

theorem reference_pre_facts : Cert.Pre_finite_ReferenceIdeal.Facts := by
  constructor <;> decide

/-- A comparison that says the absolute value is below infinity. -/
theorem real_of_cmp {x : EReal} (h : Ideal.cmp .olt (max x (-x)) (Ideal.ofBits .f32 0x7F800000#32) = 1#1) : IsReal x := by
  rw [top_eq] at h
  refine real_of_abs_lt ?_
  by_contra hx
  simp only [Ideal.cmp, hx, decide_false] at h
  exact absurd h (by decide)

open Cert.Pre_finite_KernelIdeal in
theorem entries_real [Cert.Pre_finite_KernelIdeal.Facts] (x : FVec Ideal S2x128x512 .f32) (w : FVec Ideal S512x512 .f32)
    (k v : FVec Ideal S2x128x8x64 .f32) (wo : FVec Ideal S512x512 .f32) (h : fn x w k v wo = fun _ => 1#1) :
    (∀ y, IsReal (x y)) ∧ (∀ y, IsReal (w y)) ∧ ∀ y, IsReal (k y) := by
  have hs : Subsingleton S_.Idx := inferInstance
  have h0 := congrFun h default
  unfold fn at h0
  have h1 := IntOp.andi_eq_one.mp h0
  have h2 := IntOp.andi_eq_one.mp h1.1
  exact ⟨fun y => real_of_cmp (Host.reduce_andi_all _ _ _ _ _ h2.1 y), fun y => real_of_cmp (Host.reduce_andi_all _ _ _ _ _ h2.2 y),
    fun y => real_of_cmp (Host.reduce_andi_all _ _ _ _ _ h1.2 y)⟩

end Cert.Value

end
-- ==== Proof.Value.Equation.lean ====
/-
  The kernel and the reference leave the same array.
-/
module

public import proofs.«01_k».proof.Proof.Value.Kernel
public import proofs.«01_k».proof.Proof.Value.Finite
public import proofs.«01_k».proof.Proof.KernelIdeal.Launch

@[expose] public section

set_option maxRecDepth 16384

noncomputable section

namespace Cert.Value

open Idealize.ShloMosaic Idealize.SL.Sem

/-- From finite inputs, query weights and keys, every device of the kernel ends with the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := kernel_pre_facts) := by
  intro m g m' g' hpre hin
  have := kernel_pre_facts
  refine ⟨Cert.ReferenceIdeal.Value.res_main_v30 m' 0, ?_, (θ_run _ _ _).mono (fun _ h => h 0) (Cert.ReferenceIdeal.Value.run m' g')⟩
  refine (θ_run _ _ _).mono (fun _ h c => ⟨(h.1 c).1.trans ?_, (h.1 c).2⟩) (Cert.KernelIdeal.Talk.run_main m g)
  obtain ⟨hx, hw, -⟩ := entries_real _ _ _ _ _ (hpre c)
  rw [(hin c).1] at hx
  rw [(hin c).2.1] at hw
  have hk := real_of_blocks (m' ((0 : Dev Cert.ReferenceIdeal.nD).tc.loc Cert.ReferenceIdeal.main_arg2)) fun e y => by
    have h := (entries_real _ _ _ _ _ (hpre e)).2.2
    rw [(hin e).2.2.1] at h
    exact h y
  rw [Reference.reference_result]
  funext y
  obtain ⟨b, i, f, rfl⟩ : ∃ (b : Fin 2) (i : Fin 128) (f : Fin 512), y = ix3 b i f := ⟨_, _, _, eq_ix3 y⟩
  exact (output_at m hin c b i f).trans (attention_at _ _ hx hw hk b i f).symm

end Cert.Value

end
-- ==== Proof.lean ====
/-
  The proof of `Cert.Claim`: each program ends, leaves its arguments as they were and every counter at zero; the idealized
  kernel is the kernel; and over the reals every device of the kernel ends with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Equation
public import Idealize.ShloMosaic.Adequacy
public import Idealize.ShloMosaic.Init

@[expose] public section

noncomputable section

namespace Cert.Proof

open Idealize.ShloMosaic Idealize.SL.Sem Cert.Kernel

theorem kernel_frame : Cert.quiescent_Kernel := fun m g _ =>
  (θ_run _ _ _).mono (fun _ h => ⟨fun c => (h.1 c).2, h.2⟩) (Cert.Kernel.Talk.run_main m g)

theorem ideal_frame : Cert.quiescent_KernelIdeal := fun m g _ =>
  (θ_run _ _ _).mono (fun _ h => ⟨fun c => (h.1 c).2, h.2⟩) (Cert.KernelIdeal.Talk.run_main m g)

theorem reference_frame : Cert.quiescent_ReferenceIdeal := fun m g _ =>
  (θ_run _ _ _).mono (fun r h => ⟨fun c => (h c).2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.Value.kernel_pre_facts, Cert.Value.reference_pre_facts, kernel_frame, ideal_frame, fun m g _ => ideal_frame m g trivial,
  reference_frame, fun m g _ => reference_frame m g trivial, trivial, Cert.Value.algebraic⟩

end Cert.Proof

end
